-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 128, 32, 64]⟩ 2 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 128, 32, 64]⟩ 2 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x2048 : Shape := ⟨2, ![512, 2048]⟩
abbrev S2x128x4x64 : Shape := ⟨4, ![2, 128, 4, 64]⟩
abbrev S2048x512 : Shape := ⟨2, ![2048, 512]⟩
abbrev S_ : Shape := ⟨0, ![]⟩
abbrev S512x256 : Shape := ⟨2, ![512, 256]⟩
abbrev S256x512 : Shape := ⟨2, ![256, 512]⟩
abbrev S256x256 : Shape := ⟨2, ![256, 256]⟩
abbrev S8x32x256 : Shape := ⟨3, ![8, 32, 256]⟩
abbrev S32x512 : Shape := ⟨2, ![32, 512]⟩
abbrev S16 : Shape := ⟨1, ![16]⟩
abbrev S2 : Shape := ⟨1, ![2]⟩
abbrev S1x128x512 : Shape := ⟨3, ![1, 128, 512]⟩
abbrev S128x512 : Shape := ⟨2, ![128, 512]⟩
abbrev S128x256 : Shape := ⟨2, ![128, 256]⟩
abbrev S128x64 : Shape := ⟨2, ![128, 64]⟩
abbrev S1x128x1x64 : Shape := ⟨4, ![1, 128, 1, 64]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x32x256 : Shape := ⟨3, ![1, 32, 256]⟩
abbrev S32x256 : Shape := ⟨2, ![32, 256]⟩

abbrev nBuf : Space → Nat
  | .hbm => 22
  | .vmem => 9
  | .smem => 0
  | _ => 0

abbrev bufTy : (tb : Table) → Fin (tcTables nBuf tb) → BufTy
  | .hbm, ⟨0, _⟩ => ⟨S2x128x512, .f32⟩
  | .hbm, ⟨1, _⟩ => ⟨S512x2048, .f32⟩
  | .hbm, ⟨2, _⟩ => ⟨S2x128x4x64, .f32⟩
  | .hbm, ⟨3, _⟩ => ⟨S2x128x4x64, .f32⟩
  | .hbm, ⟨4, _⟩ => ⟨S2048x512, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S512x256, .f32⟩
  | .hbm, ⟨20, _⟩ => ⟨S256x512, .f32⟩
  | .hbm, ⟨21, _⟩ => ⟨S2x128x512, .f32⟩
  | .local _ .vmem, ⟨0, _⟩ => ⟨S2x128x512, .f32⟩
  | .local _ .vmem, ⟨1, _⟩ => ⟨S512x256, .f32⟩
  | .local _ .vmem, ⟨2, _⟩ => ⟨S2x128x4x64, .f32⟩
  | .local _ .vmem, ⟨3, _⟩ => ⟨S2x128x4x64, .f32⟩
  | .local _ .vmem, ⟨4, _⟩ => ⟨S2048x512, .f32⟩
  | .local _ .vmem, ⟨5, _⟩ => ⟨S256x512, .f32⟩
  | .local _ .vmem, ⟨6, _⟩ => ⟨S256x256, .f32⟩
  | .local _ .vmem, ⟨7, _⟩ => ⟨S8x32x256, .f32⟩
  | .local _ .vmem, ⟨8, _⟩ => ⟨S32x512, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 1 24 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_251 : BitVec 32 := 0#32
  let c0_i32_249 : BitVec 32 := 0#32
  let c1_i32_250 : BitVec 32 := 1#32
  let v370 : BitVec 32 := Scalar.muli c0_i32_249 c1_i32_250
  let v371 : BitVec 32 := Scalar.addi c0_i32_251 v370
  v371.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_251 : BitVec 32 := 0#32
  let c1_i32_249 : BitVec 32 := 1#32
  let c1_i32_250 : BitVec 32 := 1#32
  let v370 : BitVec 32 := Scalar.muli c1_i32_249 c1_i32_250
  let v371 : BitVec 32 := Scalar.addi c0_i32_251 v370
  v371.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_251 : BitVec 32 := 0#32
  let c2_i32_249 : BitVec 32 := 2#32
  let c1_i32_250 : BitVec 32 := 1#32
  let v370 : BitVec 32 := Scalar.muli c2_i32_249 c1_i32_250
  let v371 : BitVec 32 := Scalar.addi c0_i32_251 v370
  v371.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_251 : BitVec 32 := 0#32
  let c3_i32_249 : BitVec 32 := 3#32
  let c1_i32_250 : BitVec 32 := 1#32
  let v370 : BitVec 32 := Scalar.muli c3_i32_249 c1_i32_250
  let v371 : BitVec 32 := Scalar.addi c0_i32_251 v370
  v371.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_251 : BitVec 32 := 0#32
  let c4_i32_249 : BitVec 32 := 4#32
  let c1_i32_250 : BitVec 32 := 1#32
  let v370 : BitVec 32 := Scalar.muli c4_i32_249 c1_i32_250
  let v371 : BitVec 32 := Scalar.addi c0_i32_251 v370
  v371.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_251 : BitVec 32 := 0#32
  let c5_i32_249 : BitVec 32 := 5#32
  let c1_i32_250 : BitVec 32 := 1#32
  let v370 : BitVec 32 := Scalar.muli c5_i32_249 c1_i32_250
  let v371 : BitVec 32 := Scalar.addi c0_i32_251 v370
  v371.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_251 : BitVec 32 := 0#32
  let c6_i32_249 : BitVec 32 := 6#32
  let c1_i32_250 : BitVec 32 := 1#32
  let v370 : BitVec 32 := Scalar.muli c6_i32_249 c1_i32_250
  let v371 : BitVec 32 := Scalar.addi c0_i32_251 v370
  v371.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_251 : BitVec 32 := 0#32
  let c7_i32_249 : BitVec 32 := 7#32
  let c1_i32_250 : BitVec 32 := 1#32
  let v370 : BitVec 32 := Scalar.muli c7_i32_249 c1_i32_250
  let v371 : BitVec 32 := Scalar.addi c0_i32_251 v370
  v371.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_65 : BitVec 32 := 0#32
  let v109 : BitVec 1 := Scalar.cmpi .ne v2 c0_i32_65
  let v110 : BitVec 32 := Scalar.extui v109
  let c0_i32_66 : BitVec 32 := 0#32
  let v111 : BitVec 1 := Scalar.cmpi .ne v110 c0_i32_66
  v111

def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_253 : BitVec 32 := 0#32
  let c0_i32_254 : BitVec 32 := 0#32
  ![v2.toNat, 0, 0]
def k0_dev9 : Nat :=
  let c0_i32_252 : BitVec 32 := 0#32
  let c0_i32_250 : BitVec 32 := 0#32
  let c1_i32_251 : BitVec 32 := 1#32
  let v370 : BitVec 32 := Scalar.muli c0_i32_250 c1_i32_251
  let v371 : BitVec 32 := Scalar.addi c0_i32_252 v370
  v371.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_67 : BitVec 32 := 1#32
  let v112 : BitVec 1 := Scalar.cmpi .ne v2 c1_i32_67
  let v113 : BitVec 32 := Scalar.extui v112
  let c0_i32_68 : BitVec 32 := 0#32
  let v114 : BitVec 1 := Scalar.cmpi .ne v113 c0_i32_68
  v114

def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_253 : BitVec 32 := 0#32
  let c0_i32_254 : BitVec 32 := 0#32
  ![v2.toNat, 0, 0]
def k0_dev10 : Nat :=
  let c0_i32_252 : BitVec 32 := 0#32
  let c1_i32_250 : BitVec 32 := 1#32
  let c1_i32_251 : BitVec 32 := 1#32
  let v370 : BitVec 32 := Scalar.muli c1_i32_250 c1_i32_251
  let v371 : BitVec 32 := Scalar.addi c0_i32_252 v370
  v371.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_69 : BitVec 32 := 2#32
  let v115 : BitVec 1 := Scalar.cmpi .ne v2 c2_i32_69
  let v116 : BitVec 32 := Scalar.extui v115
  let c0_i32_70 : BitVec 32 := 0#32
  let v117 : BitVec 1 := Scalar.cmpi .ne v116 c0_i32_70
  v117

def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_253 : BitVec 32 := 0#32
  let c0_i32_254 : BitVec 32 := 0#32
  ![v2.toNat, 0, 0]
def k0_dev11 : Nat :=
  let c0_i32_252 : BitVec 32 := 0#32
  let c2_i32_250 : BitVec 32 := 2#32
  let c1_i32_251 : BitVec 32 := 1#32
  let v370 : BitVec 32 := Scalar.muli c2_i32_250 c1_i32_251
  let v371 : BitVec 32 := Scalar.addi c0_i32_252 v370
  v371.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_71 : BitVec 32 := 3#32
  let v118 : BitVec 1 := Scalar.cmpi .ne v2 c3_i32_71
  let v119 : BitVec 32 := Scalar.extui v118
  let c0_i32_72 : BitVec 32 := 0#32
  let v120 : BitVec 1 := Scalar.cmpi .ne v119 c0_i32_72
  v120

def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_253 : BitVec 32 := 0#32
  let c0_i32_254 : BitVec 32 := 0#32
  ![v2.toNat, 0, 0]
def k0_dev12 : Nat :=
  let c0_i32_252 : BitVec 32 := 0#32
  let c3_i32_250 : BitVec 32 := 3#32
  let c1_i32_251 : BitVec 32 := 1#32
  let v370 : BitVec 32 := Scalar.muli c3_i32_250 c1_i32_251
  let v371 : BitVec 32 := Scalar.addi c0_i32_252 v370
  v371.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_132 : BitVec 32 := 4#32
  let v202 : BitVec 1 := Scalar.cmpi .ne v2 c4_i32_132
  let v203 : BitVec 32 := Scalar.extui v202
  let c0_i32_133 : BitVec 32 := 0#32
  let v204 : BitVec 1 := Scalar.cmpi .ne v203 c0_i32_133
  v204

def k0_off5 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_253 : BitVec 32 := 0#32
  let c0_i32_254 : BitVec 32 := 0#32
  ![v2.toNat, 0, 0]
def k0_dev13 : Nat :=
  let c0_i32_252 : BitVec 32 := 0#32
  let c4_i32_250 : BitVec 32 := 4#32
  let c1_i32_251 : BitVec 32 := 1#32
  let v370 : BitVec 32 := Scalar.muli c4_i32_250 c1_i32_251
  let v371 : BitVec 32 := Scalar.addi c0_i32_252 v370
  v371.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_134 : BitVec 32 := 5#32
  let v205 : BitVec 1 := Scalar.cmpi .ne v2 c5_i32_134
  let v206 : BitVec 32 := Scalar.extui v205
  let c0_i32_135 : BitVec 32 := 0#32
  let v207 : BitVec 1 := Scalar.cmpi .ne v206 c0_i32_135
  v207

def k0_off6 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_253 : BitVec 32 := 0#32
  let c0_i32_254 : BitVec 32 := 0#32
  ![v2.toNat, 0, 0]
def k0_dev14 : Nat :=
  let c0_i32_252 : BitVec 32 := 0#32
  let c5_i32_250 : BitVec 32 := 5#32
  let c1_i32_251 : BitVec 32 := 1#32
  let v370 : BitVec 32 := Scalar.muli c5_i32_250 c1_i32_251
  let v371 : BitVec 32 := Scalar.addi c0_i32_252 v370
  v371.toNat
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_136 : BitVec 32 := 6#32
  let v208 : BitVec 1 := Scalar.cmpi .ne v2 c6_i32_136
  let v209 : BitVec 32 := Scalar.extui v208
  let c0_i32_137 : BitVec 32 := 0#32
  let v210 : BitVec 1 := Scalar.cmpi .ne v209 c0_i32_137
  v210

def k0_off7 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_253 : BitVec 32 := 0#32
  let c0_i32_254 : BitVec 32 := 0#32
  ![v2.toNat, 0, 0]
def k0_dev15 : Nat :=
  let c0_i32_252 : BitVec 32 := 0#32
  let c6_i32_250 : BitVec 32 := 6#32
  let c1_i32_251 : BitVec 32 := 1#32
  let v370 : BitVec 32 := Scalar.muli c6_i32_250 c1_i32_251
  let v371 : BitVec 32 := Scalar.addi c0_i32_252 v370
  v371.toNat
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_138 : BitVec 32 := 7#32
  let v211 : BitVec 1 := Scalar.cmpi .ne v2 c7_i32_138
  let v212 : BitVec 32 := Scalar.extui v211
  let c0_i32_139 : BitVec 32 := 0#32
  let v213 : BitVec 1 := Scalar.cmpi .ne v212 c0_i32_139
  v213

def k0_off8 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_253 : BitVec 32 := 0#32
  let c0_i32_254 : BitVec 32 := 0#32
  ![v2.toNat, 0, 0]
def k0_dev16 : Nat :=
  let c0_i32_252 : BitVec 32 := 0#32
  let c7_i32_250 : BitVec 32 := 7#32
  let c1_i32_251 : BitVec 32 := 1#32
  let v370 : BitVec 32 := Scalar.muli c7_i32_250 c1_i32_251
  let v371 : BitVec 32 := Scalar.addi c0_i32_252 v370
  v371.toNat
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32 : BitVec 32 := 32#32
  let v214 : BitVec 32 := Scalar.muli v2 c32_i32
  let v215 : Index := Scalar.indexCast v214
  let c0_140 : Index := 0#32
  ![v215.toNat, 0]
def k0_off10 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v217 : Index := Scalar.indexCast v2
  let c0_141 : Index := 0#32
  let c0_142 : Index := 0#32
  ![v217.toNat, 0, 0]
def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_198 : BitVec 32 := 32#32
  let v295 : BitVec 32 := Scalar.muli v2 c32_i32_198
  let v296 : Index := Scalar.indexCast v295
  let c0_199 : Index := 0#32
  ![v296.toNat, 0]
def k0_cond25 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_200 : BitVec 32 := 0#32
  let v298 : BitVec 1 := Scalar.cmpi .ne v2 c0_i32_200
  let v299 : BitVec 32 := Scalar.extui v298
  let c0_i32_201 : BitVec 32 := 0#32
  let v300 : BitVec 1 := Scalar.cmpi .ne v299 c0_i32_201
  v300

def k0_off12 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_248 : BitVec 32 := 32#32
  let v370 : BitVec 32 := Scalar.muli v2 c32_i32_248
  let c0_i32_254 : BitVec 32 := 0#32
  ![v370.toNat, 0]
def k0_dev17 : Nat :=
  let c0_i32_253 : BitVec 32 := 0#32
  let c0_i32_251 : BitVec 32 := 0#32
  let c1_i32_252 : BitVec 32 := 1#32
  let v371 : BitVec 32 := Scalar.muli c0_i32_251 c1_i32_252
  let v372 : BitVec 32 := Scalar.addi c0_i32_253 v371
  v372.toNat
def k0_cond26 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_202 : BitVec 32 := 1#32
  let v301 : BitVec 1 := Scalar.cmpi .ne v2 c1_i32_202
  let v302 : BitVec 32 := Scalar.extui v301
  let c0_i32_203 : BitVec 32 := 0#32
  let v303 : BitVec 1 := Scalar.cmpi .ne v302 c0_i32_203
  v303

def k0_off13 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_248 : BitVec 32 := 32#32
  let v370 : BitVec 32 := Scalar.muli v2 c32_i32_248
  let c0_i32_253 : BitVec 32 := 0#32
  ![v370.toNat, 0]
def k0_dev18 : Nat :=
  let c0_i32_252 : BitVec 32 := 0#32
  let c1_i32_250 : BitVec 32 := 1#32
  let c1_i32_251 : BitVec 32 := 1#32
  let v371 : BitVec 32 := Scalar.muli c1_i32_250 c1_i32_251
  let v372 : BitVec 32 := Scalar.addi c0_i32_252 v371
  v372.toNat
def k0_cond27 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_204 : BitVec 32 := 2#32
  let v304 : BitVec 1 := Scalar.cmpi .ne v2 c2_i32_204
  let v305 : BitVec 32 := Scalar.extui v304
  let c0_i32_205 : BitVec 32 := 0#32
  let v306 : BitVec 1 := Scalar.cmpi .ne v305 c0_i32_205
  v306

def k0_off14 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_248 : BitVec 32 := 32#32
  let v370 : BitVec 32 := Scalar.muli v2 c32_i32_248
  let c0_i32_253 : BitVec 32 := 0#32
  ![v370.toNat, 0]
def k0_dev19 : Nat :=
  let c0_i32_252 : BitVec 32 := 0#32
  let c2_i32_250 : BitVec 32 := 2#32
  let c1_i32_251 : BitVec 32 := 1#32
  let v371 : BitVec 32 := Scalar.muli c2_i32_250 c1_i32_251
  let v372 : BitVec 32 := Scalar.addi c0_i32_252 v371
  v372.toNat
def k0_cond28 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_206 : BitVec 32 := 3#32
  let v307 : BitVec 1 := Scalar.cmpi .ne v2 c3_i32_206
  let v308 : BitVec 32 := Scalar.extui v307
  let c0_i32_207 : BitVec 32 := 0#32
  let v309 : BitVec 1 := Scalar.cmpi .ne v308 c0_i32_207
  v309

def k0_off15 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_248 : BitVec 32 := 32#32
  let v370 : BitVec 32 := Scalar.muli v2 c32_i32_248
  let c0_i32_253 : BitVec 32 := 0#32
  ![v370.toNat, 0]
def k0_dev20 : Nat :=
  let c0_i32_252 : BitVec 32 := 0#32
  let c3_i32_250 : BitVec 32 := 3#32
  let c1_i32_251 : BitVec 32 := 1#32
  let v371 : BitVec 32 := Scalar.muli c3_i32_250 c1_i32_251
  let v372 : BitVec 32 := Scalar.addi c0_i32_252 v371
  v372.toNat
def k0_cond29 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_208 : BitVec 32 := 4#32
  let v310 : BitVec 1 := Scalar.cmpi .ne v2 c4_i32_208
  let v311 : BitVec 32 := Scalar.extui v310
  let c0_i32_209 : BitVec 32 := 0#32
  let v312 : BitVec 1 := Scalar.cmpi .ne v311 c0_i32_209
  v312

def k0_off16 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_248 : BitVec 32 := 32#32
  let v370 : BitVec 32 := Scalar.muli v2 c32_i32_248
  let c0_i32_253 : BitVec 32 := 0#32
  ![v370.toNat, 0]
def k0_dev21 : Nat :=
  let c0_i32_252 : BitVec 32 := 0#32
  let c4_i32_250 : BitVec 32 := 4#32
  let c1_i32_251 : BitVec 32 := 1#32
  let v371 : BitVec 32 := Scalar.muli c4_i32_250 c1_i32_251
  let v372 : BitVec 32 := Scalar.addi c0_i32_252 v371
  v372.toNat
def k0_cond30 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_210 : BitVec 32 := 5#32
  let v313 : BitVec 1 := Scalar.cmpi .ne v2 c5_i32_210
  let v314 : BitVec 32 := Scalar.extui v313
  let c0_i32_211 : BitVec 32 := 0#32
  let v315 : BitVec 1 := Scalar.cmpi .ne v314 c0_i32_211
  v315

def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_248 : BitVec 32 := 32#32
  let v370 : BitVec 32 := Scalar.muli v2 c32_i32_248
  let c0_i32_253 : BitVec 32 := 0#32
  ![v370.toNat, 0]
def k0_dev22 : Nat :=
  let c0_i32_252 : BitVec 32 := 0#32
  let c5_i32_250 : BitVec 32 := 5#32
  let c1_i32_251 : BitVec 32 := 1#32
  let v371 : BitVec 32 := Scalar.muli c5_i32_250 c1_i32_251
  let v372 : BitVec 32 := Scalar.addi c0_i32_252 v371
  v372.toNat
def k0_cond31 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_212 : BitVec 32 := 6#32
  let v316 : BitVec 1 := Scalar.cmpi .ne v2 c6_i32_212
  let v317 : BitVec 32 := Scalar.extui v316
  let c0_i32_213 : BitVec 32 := 0#32
  let v318 : BitVec 1 := Scalar.cmpi .ne v317 c0_i32_213
  v318

def k0_off18 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_248 : BitVec 32 := 32#32
  let v370 : BitVec 32 := Scalar.muli v2 c32_i32_248
  let c0_i32_253 : BitVec 32 := 0#32
  ![v370.toNat, 0]
def k0_dev23 : Nat :=
  let c0_i32_252 : BitVec 32 := 0#32
  let c6_i32_250 : BitVec 32 := 6#32
  let c1_i32_251 : BitVec 32 := 1#32
  let v371 : BitVec 32 := Scalar.muli c6_i32_250 c1_i32_251
  let v372 : BitVec 32 := Scalar.addi c0_i32_252 v371
  v372.toNat
def k0_cond32 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_214 : BitVec 32 := 7#32
  let v319 : BitVec 1 := Scalar.cmpi .ne v2 c7_i32_214
  let v320 : BitVec 32 := Scalar.extui v319
  let c0_i32_215 : BitVec 32 := 0#32
  let v321 : BitVec 1 := Scalar.cmpi .ne v320 c0_i32_215
  v321

def k0_off19 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_248 : BitVec 32 := 32#32
  let v370 : BitVec 32 := Scalar.muli v2 c32_i32_248
  let c0_i32_253 : BitVec 32 := 0#32
  ![v370.toNat, 0]
def k0_dev24 : Nat :=
  let c0_i32_252 : BitVec 32 := 0#32
  let c7_i32_250 : BitVec 32 := 7#32
  let c1_i32_251 : BitVec 32 := 1#32
  let v371 : BitVec 32 := Scalar.muli c7_i32_250 c1_i32_251
  let v372 : BitVec 32 := Scalar.addi c0_i32_252 v371
  v372.toNat
def k0_cond41 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_232 : BitVec 32 := 0#32
  let v346 : BitVec 1 := Scalar.cmpi .ne v2 c0_i32_232
  let v347 : BitVec 32 := Scalar.extui v346
  let c0_i32_233 : BitVec 32 := 0#32
  let v348 : BitVec 1 := Scalar.cmpi .ne v347 c0_i32_233
  v348

def k0_off20 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_254 : BitVec 32 := 0#32
  let c0_i32_255 : BitVec 32 := 0#32
  ![v2.toNat, 0, 0]
def k0_off21 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_256 : BitVec 32 := 32#32
  let v375 : BitVec 32 := Scalar.muli v2 c32_i32_256
  let c0_i32_261 : BitVec 32 := 0#32
  ![v375.toNat, 0]
def k0_cond42 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_234 : BitVec 32 := 1#32
  let v349 : BitVec 1 := Scalar.cmpi .ne v2 c1_i32_234
  let v350 : BitVec 32 := Scalar.extui v349
  let c0_i32_235 : BitVec 32 := 0#32
  let v351 : BitVec 1 := Scalar.cmpi .ne v350 c0_i32_235
  v351

def k0_off22 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_254 : BitVec 32 := 0#32
  let c0_i32_255 : BitVec 32 := 0#32
  ![v2.toNat, 0, 0]
def k0_off23 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_256 : BitVec 32 := 32#32
  let v375 : BitVec 32 := Scalar.muli v2 c32_i32_256
  let c0_i32_260 : BitVec 32 := 0#32
  ![v375.toNat, 0]
def k0_cond43 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_236 : BitVec 32 := 2#32
  let v352 : BitVec 1 := Scalar.cmpi .ne v2 c2_i32_236
  let v353 : BitVec 32 := Scalar.extui v352
  let c0_i32_237 : BitVec 32 := 0#32
  let v354 : BitVec 1 := Scalar.cmpi .ne v353 c0_i32_237
  v354

def k0_off24 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_253 : BitVec 32 := 0#32
  let c0_i32_254 : BitVec 32 := 0#32
  ![v2.toNat, 0, 0]
def k0_off25 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_255 : BitVec 32 := 32#32
  let v375 : BitVec 32 := Scalar.muli v2 c32_i32_255
  let c0_i32_259 : BitVec 32 := 0#32
  ![v375.toNat, 0]
def k0_cond44 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_238 : BitVec 32 := 3#32
  let v355 : BitVec 1 := Scalar.cmpi .ne v2 c3_i32_238
  let v356 : BitVec 32 := Scalar.extui v355
  let c0_i32_239 : BitVec 32 := 0#32
  let v357 : BitVec 1 := Scalar.cmpi .ne v356 c0_i32_239
  v357

def k0_off26 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_253 : BitVec 32 := 0#32
  let c0_i32_254 : BitVec 32 := 0#32
  ![v2.toNat, 0, 0]
def k0_off27 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_255 : BitVec 32 := 32#32
  let v375 : BitVec 32 := Scalar.muli v2 c32_i32_255
  let c0_i32_259 : BitVec 32 := 0#32
  ![v375.toNat, 0]
def k0_cond45 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_240 : BitVec 32 := 4#32
  let v358 : BitVec 1 := Scalar.cmpi .ne v2 c4_i32_240
  let v359 : BitVec 32 := Scalar.extui v358
  let c0_i32_241 : BitVec 32 := 0#32
  let v360 : BitVec 1 := Scalar.cmpi .ne v359 c0_i32_241
  v360

def k0_off28 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_253 : BitVec 32 := 0#32
  let c0_i32_254 : BitVec 32 := 0#32
  ![v2.toNat, 0, 0]
def k0_off29 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_255 : BitVec 32 := 32#32
  let v375 : BitVec 32 := Scalar.muli v2 c32_i32_255
  let c0_i32_259 : BitVec 32 := 0#32
  ![v375.toNat, 0]
def k0_cond46 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_242 : BitVec 32 := 5#32
  let v361 : BitVec 1 := Scalar.cmpi .ne v2 c5_i32_242
  let v362 : BitVec 32 := Scalar.extui v361
  let c0_i32_243 : BitVec 32 := 0#32
  let v363 : BitVec 1 := Scalar.cmpi .ne v362 c0_i32_243
  v363

def k0_off30 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_253 : BitVec 32 := 0#32
  let c0_i32_254 : BitVec 32 := 0#32
  ![v2.toNat, 0, 0]
def k0_off31 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_255 : BitVec 32 := 32#32
  let v375 : BitVec 32 := Scalar.muli v2 c32_i32_255
  let c0_i32_259 : BitVec 32 := 0#32
  ![v375.toNat, 0]
def k0_cond47 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_244 : BitVec 32 := 6#32
  let v364 : BitVec 1 := Scalar.cmpi .ne v2 c6_i32_244
  let v365 : BitVec 32 := Scalar.extui v364
  let c0_i32_245 : BitVec 32 := 0#32
  let v366 : BitVec 1 := Scalar.cmpi .ne v365 c0_i32_245
  v366

def k0_off32 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_253 : BitVec 32 := 0#32
  let c0_i32_254 : BitVec 32 := 0#32
  ![v2.toNat, 0, 0]
def k0_off33 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_255 : BitVec 32 := 32#32
  let v375 : BitVec 32 := Scalar.muli v2 c32_i32_255
  let c0_i32_259 : BitVec 32 := 0#32
  ![v375.toNat, 0]
def k0_cond48 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_246 : BitVec 32 := 7#32
  let v367 : BitVec 1 := Scalar.cmpi .ne v2 c7_i32_246
  let v368 : BitVec 32 := Scalar.extui v367
  let c0_i32_247 : BitVec 32 := 0#32
  let v369 : BitVec 1 := Scalar.cmpi .ne v368 c0_i32_247
  v369

def k0_off34 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_253 : BitVec 32 := 0#32
  let c0_i32_254 : BitVec 32 := 0#32
  ![v2.toNat, 0, 0]
def k0_off35 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_255 : BitVec 32 := 32#32
  let v375 : BitVec 32 := Scalar.muli v2 c32_i32_255
  let c0_i32_259 : BitVec 32 := 0#32
  ![v375.toNat, 0]
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x2048 : Shape := ⟨2, ![512, 2048]⟩
abbrev S2x128x32x64 : Shape := ⟨4, ![2, 128, 32, 64]⟩
abbrev S2048x512 : Shape := ⟨2, ![2048, 512]⟩
abbrev S2x128x2048 : Shape := ⟨3, ![2, 128, 2048]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S2x32x128x128 : Shape := ⟨4, ![2, 32, 128, 128]⟩
abbrev S1x1x128x128 : Shape := ⟨4, ![1, 1, 128, 128]⟩
abbrev S2x32x128 : Shape := ⟨3, ![2, 32, 128]⟩
abbrev S2x32x128x1 : Shape := ⟨4, ![2, 32, 128, 1]⟩
abbrev S1x1x128x1 : Shape := ⟨4, ![1, 1, 128, 1]⟩
abbrev S2x32x64x128 : Shape := ⟨4, ![2, 32, 64, 128]⟩

abbrev nBuf : Space → Nat
  | .hbm => 57
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x2048, .f32⟩
  | .hbm, ⟨2, _⟩ => ⟨S2x128x32x64, .f32⟩
  | .hbm, ⟨3, _⟩ => ⟨S2x128x32x64, .f32⟩
  | .hbm, ⟨4, _⟩ => ⟨S2048x512, .f32⟩
  | .hbm, ⟨5, _⟩ => ⟨S2x128x2048, .f32⟩
  | .hbm, ⟨6, _⟩ => ⟨S2x128x32x64, .f32⟩
  | .hbm, ⟨7, _⟩ => ⟨S128, .i32⟩
  | .hbm, ⟨8, _⟩ => ⟨S128x1, .i32⟩
  | .hbm, ⟨9, _⟩ => ⟨S128, .i32⟩
  | .hbm, ⟨10, _⟩ => ⟨S1x128, .i32⟩
  | .hbm, ⟨11, _⟩ => ⟨S128x128, .i32⟩
  | .hbm, ⟨12, _⟩ => ⟨S128x128, .i32⟩
  | .hbm, ⟨13, _⟩ => ⟨S128x128, .i32⟩
  | .hbm, ⟨14, _⟩ => ⟨S128x128, .i32⟩
  | .hbm, ⟨15, _⟩ => ⟨S_, .i32⟩
  | .hbm, ⟨16, _⟩ => ⟨S128x128, .i32⟩
  | .hbm, ⟨17, _⟩ => ⟨S128x128, .i1⟩
  | .hbm, ⟨18, _⟩ => ⟨S2x32x128x128, .f32⟩
  | .hbm, ⟨19, _⟩ => ⟨S_, .f32⟩
  | .hbm, ⟨20, _⟩ => ⟨S2x32x128x128, .f32⟩
  | .hbm, ⟨21, _⟩ => ⟨S2x32x128x128, .f32⟩
  | .hbm, ⟨22, _⟩ => ⟨S1x1x128x128, .i1⟩
  | .hbm, ⟨23, _⟩ => ⟨S_, .f32⟩
  | .hbm, ⟨24, _⟩ => ⟨S_, .f32⟩
  | .hbm, ⟨25, _⟩ => ⟨S2x32x128x128, .i1⟩
  | .hbm, ⟨26, _⟩ => ⟨S2x32x128x128, .f32⟩
  | .hbm, ⟨27, _⟩ => ⟨S2x32x128x128, .f32⟩
  | .hbm, ⟨28, _⟩ => ⟨S_, .f32⟩
  | .hbm, ⟨29, _⟩ => ⟨S2x32x128, .f32⟩
  | .hbm, ⟨30, _⟩ => ⟨S2x32x128x1, .f32⟩
  | .hbm, ⟨31, _⟩ => ⟨S2x32x128x128, .f32⟩
  | .hbm, ⟨32, _⟩ => ⟨S2x32x128x128, .f32⟩
  | .hbm, ⟨33, _⟩ => ⟨S2x32x128x128, .f32⟩
  | .hbm, ⟨34, _⟩ => ⟨S_, .i1⟩
  | .hbm, ⟨35, _⟩ => ⟨S128, .i1⟩
  | .hbm, ⟨36, _⟩ => ⟨S1x1x128x1, .i1⟩
  | .hbm, ⟨37, _⟩ => ⟨S_, .f32⟩
  | .hbm, ⟨38, _⟩ => ⟨S2x32x128, .f32⟩
  | .hbm, ⟨39, _⟩ => ⟨S2x32x128x1, .f32⟩
  | .hbm, ⟨40, _⟩ => ⟨S_, .f32⟩
  | .hbm, ⟨41, _⟩ => ⟨S_, .f32⟩
  | .hbm, ⟨42, _⟩ => ⟨S2x32x128x1, .i1⟩
  | .hbm, ⟨43, _⟩ => ⟨S2x32x128x1, .f32⟩
  | .hbm, ⟨44, _⟩ => ⟨S2x32x128x1, .f32⟩
  | .hbm, ⟨45, _⟩ => ⟨S2x32x128x128, .f32⟩
  | .hbm, ⟨46, _⟩ => ⟨S2x32x128x128, .f32⟩
  | .hbm, ⟨47, _⟩ => ⟨S1x1x128x1, .i1⟩
  | .hbm, ⟨48, _⟩ => ⟨S_, .f32⟩
  | .hbm, ⟨49, _⟩ => ⟨S_, .f32⟩
  | .hbm, ⟨50, _⟩ => ⟨S2x32x128x128, .i1⟩
  | .hbm, ⟨51, _⟩ => ⟨S2x32x128x128, .f32⟩
  | .hbm, ⟨52, _⟩ => ⟨S2x32x128x128, .f32⟩
  | .hbm, ⟨53, _⟩ => ⟨S2x32x64x128, .f32⟩
  | .hbm, ⟨54, _⟩ => ⟨S2x128x32x64, .f32⟩
  | .hbm, ⟨55, _⟩ => ⟨S2x128x2048, .f32⟩
  | .hbm, ⟨56, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Proof.Protocol.lean ====
/-
  The exchange protocol of the kernel, on the eight devices.

  Every device computes its attention heads (`ctx`, 256 rows of 256), sends chunk `d` (rows 32d..) of it to device `d`
  into the receiver's slot named by the SENDER, multiplies the eight gathered slots by the blocks of `Wo`, and sends the
  resulting 32 rows to every other device's result at the rows the sender is named by.

  This module names the semaphore cells, the regions of the buffers that move, the contents they carry, the schedule of
  duties (who pays which cell what), the levels that order the waits, and what each device owes at launch.
-/
module

public import proofs.«01_k».proof.Proof.Gen.KernelIdeal.Skeleton
public import proofs.«01_k».proof.Proof.Gen.KernelIdeal.Regions
public import proofs.«01_k».proof.Proof.Gen.KernelIdeal.Launch
public import proofs.«01_k».proof.Proof.Gen.KernelIdeal.Points
public import Idealize.ShloMosaic.Lib.Pipeline.Regions
public import Idealize.ShloMosaic.Lib.Pipeline.RegionTalk
public import Idealize.ShloMosaic.Lib.Rounds
public import Idealize.ShloMosaic.Lib.Ring
public import Idealize.ShloMosaic.Lib.Tactic
public import Idealize.ShloMosaic.Lib.ValueIdxCore

@[expose] public section

set_option maxRecDepth 16384

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

/-! ## The ghost state: the pipeline library's copy of the rounds algebra and this protocol's -/

abbrev UU : Type := UR sig nD τ × URounds (GSem nD τ sig) (Dev nD)

local notation "𝕄" => MT nD τ sig Unit (Elt F) ℕ UU ℕ

abbrev EP : Emb (UR sig nD τ) (MT nD τ sig Unit (Elt F) ℕ UU ℕ) := embL
abbrev ER : Emb (URounds (GSem nD τ sig) (Dev nD)) (MT nD τ sig Unit (Elt F) ℕ UU ℕ) := embR

/-! ## Cells -/

/-- The barrier semaphore, the one every device signals every other device on. -/
abbrev barS : Sem sig := sig.barrier 0 rfl
/-- The kernel's own transfer semaphores: sixteen send semaphores (the first eight for the chunks of `ctx`, the next eight for the
    result rows), then the two receive semaphores. -/
abbrev osem : Fin 18 → SemLoc sig := fun k => .dma (⟨6 + k.val, by have := k.isLt; show 6 + k.val < 24; omega⟩ : DmaSem sig)

/-- Which of the eighteen: the send semaphore of chunk `d`, of the result rows to `d`, and the two receive semaphores. -/
abbrev k1 (d : Dev nD) : Fin 18 := ⟨d.val, by have := d.isLt; change d.val < 8 at this; omega⟩
abbrev k2 (d : Dev nD) : Fin 18 := ⟨8 + d.val, by have := d.isLt; change d.val < 8 at this; omega⟩
abbrev kr0 : Fin 18 := 16
abbrev kr1 : Fin 18 := 17

abbrev barCell (c : Dev nD) : GSem nD τ sig := ((c : Thread nD τ), .reg barS)
abbrev oCell (c : Dev nD) (k : Fin 18) : GSem nD τ sig := ((c : Thread nD τ), osem k)

theorem osem_inj : Function.Injective osem := by
  intro a b h
  have := congrArg (fun s : SemLoc sig => match s with | .dma i => i.val | .reg _ => 0) h
  exact Fin.ext (by simpa using this)
theorem osem_ne_bar (k : Fin 18) : osem k ≠ .reg barS := fun h => by cases h
theorem k1_ne_k2 (d e : Dev nD) : k1 d ≠ k2 e := fun h => by
  have := congrArg Fin.val h; have hd := d.isLt; change d.val < 8 at hd; simp only at this; omega
theorem k1_ne_kr0 (d : Dev nD) : k1 d ≠ kr0 := fun h => by
  have := congrArg Fin.val h; have hd := d.isLt; change d.val < 8 at hd; change d.val = 16 at this; omega
theorem k1_ne_kr1 (d : Dev nD) : k1 d ≠ kr1 := fun h => by
  have := congrArg Fin.val h; have hd := d.isLt; change d.val < 8 at hd; change d.val = 17 at this; omega
theorem k2_ne_kr0 (d : Dev nD) : k2 d ≠ kr0 := fun h => by
  have := congrArg Fin.val h; have hd := d.isLt; change d.val < 8 at hd; change 8 + d.val = 16 at this; omega
theorem k2_ne_kr1 (d : Dev nD) : k2 d ≠ kr1 := fun h => by
  have := congrArg Fin.val h; have hd := d.isLt; change d.val < 8 at hd; change 8 + d.val = 17 at this; omega
theorem k1_inj {d e : Dev nD} (h : k1 d = k1 e) : d = e := Fin.ext (by have := congrArg Fin.val h; exact this)
theorem k2_inj {d e : Dev nD} (h : k2 d = k2 e) : d = e := Fin.ext (by have := congrArg Fin.val h; simp only at this; omega)

/-! ## Buffers, and the regions of them that move -/

abbrev xM : Memref sig .tc .vmem S2x128x512 .f32 := Memref.whole cc0_stg0_0
abbrev qM : Memref sig .tc .vmem S512x256 .f32 := Memref.whole cc0_stg1_0
abbrev kM : Memref sig .tc .vmem S2x128x4x64 .f32 := Memref.whole cc0_stg2_0
abbrev vM : Memref sig .tc .vmem S2x128x4x64 .f32 := Memref.whole cc0_stg3_0
abbrev wM : Memref sig .tc .vmem S2048x512 .f32 := Memref.whole cc0_stg4_0
abbrev oM : Memref sig .tc .vmem S256x512 .f32 := Memref.whole cc0_stg5_0
abbrev ctxM : Memref sig .tc .vmem S256x256 .f32 := Memref.whole cc0_scratch0
abbrev rsM : Memref sig .tc .vmem S8x32x256 .f32 := Memref.whole cc0_scratch1
abbrev sbM : Memref sig .tc .vmem S32x512 .f32 := Memref.whole cc0_scratch2

theorem inb_ctx (d : Dev nD) : ∀ a, (![32 * d.val, 0] : Fin 2 → ℕ) a + S32x256.size a ≤ S256x256.size a := by revert d; decide
theorem inb_rs (d : Dev nD) : ∀ a, (![d.val, 0, 0] : Fin 3 → ℕ) a + S1x32x256.size a ≤ S8x32x256.size a := by revert d; decide
theorem inb_out (d : Dev nD) : ∀ a, (![32 * d.val, 0] : Fin 2 → ℕ) a + S32x512.size a ≤ S256x512.size a := by revert d; decide

/-- Rows 32d.. of `ctx`; slot `d` of the gathered rows; rows 32d.. of the result. -/
abbrev ctxRect (d : Dev nD) : Rect S256x256 := Rect.unit (s := S256x256) ![32 * d.val, 0] S32x256.size (inb_ctx d)
abbrev rsRect (d : Dev nD) : Rect S8x32x256 := Rect.unit (s := S8x32x256) ![d.val, 0, 0] S1x32x256.size (inb_rs d)
abbrev outRect (d : Dev nD) : Rect S256x512 := Rect.unit (s := S256x512) ![32 * d.val, 0] S32x512.size (inb_out d)
abbrev ctxC (d : Dev nD) : Memref sig .tc .vmem S32x256 .f32 := ctxM.slice (ctxRect d) (fun _ => rfl)
abbrev rsC (d : Dev nD) : Memref sig .tc .vmem S32x256 .f32 := (rsM.slice (rsRect d) (fun _ => rfl)).squeeze S32x256 squeezes_S1x32x256_S32x256
abbrev outC (d : Dev nD) : Memref sig .tc .vmem S32x512 .f32 := oM.slice (outRect d) (fun _ => rfl)

/-- The same regions as sets of indices. -/
def ctxSet (d : Dev nD) : Finset S256x256.Idx := Finset.univ.filter fun i => (i 0).val / 32 = d.val
def rsSet (d : Dev nD) : Finset S8x32x256.Idx := Finset.univ.filter fun i => (i 0).val = d.val
def outSet (d : Dev nD) : Finset S256x512.Idx := Finset.univ.filter fun i => (i 0).val / 32 = d.val

theorem mem_ctxSet {d : Dev nD} {i : S256x256.Idx} : i ∈ ctxSet d ↔ (i 0).val / 32 = d.val := by simp [ctxSet]
theorem mem_rsSet {d : Dev nD} {i : S8x32x256.Idx} : i ∈ rsSet d ↔ (i 0).val = d.val := by simp [rsSet]
theorem mem_outSet {d : Dev nD} {i : S256x512.Idx} : i ∈ outSet d ↔ (i 0).val / 32 = d.val := by simp [outSet]

theorem ctxRect_set (d : Dev nD) : (ctxRect d).set = ctxSet d := by
  ext i
  rw [Rect.mem_set_unit, mem_ctxSet]
  have h1 : (i 1).val < 256 := (i 1).isLt
  constructor
  · intro h; have := h 0; simp at this; omega
  · intro h a; fin_cases a
    · simp; omega
    · simpa using h1
theorem rsRect_set (d : Dev nD) : (rsRect d).set = rsSet d := by
  ext i
  rw [Rect.mem_set_unit, mem_rsSet]
  have h1 : (i 1).val < 32 := (i 1).isLt
  have h2 : (i 2).val < 256 := (i 2).isLt
  constructor
  · intro h; have := h 0; simp at this; omega
  · intro h a; fin_cases a
    · simp; omega
    · simpa using h1
    · simpa using h2
theorem outRect_set (d : Dev nD) : (outRect d).set = outSet d := by
  ext i
  rw [Rect.mem_set_unit, mem_outSet]
  have h1 : (i 1).val < 512 := (i 1).isLt
  constructor
  · intro h; have := h 0; simp at this; omega
  · intro h a; fin_cases a
    · simp; omega
    · simpa using h1

theorem ctxC_set (d : Dev nD) : (ctxC d).view.set = ctxSet d := by
  rw [← ctxRect_set]; exact View.set_slice_whole _ _

theorem outC_set (d : Dev nD) : (outC d).view.set = outSet d := by
  rw [← outRect_set]; exact View.set_slice_whole _ _
theorem rsC_set (d : Dev nD) : (rsC d).view.set = rsSet d := by
  rw [← rsRect_set]; exact (View.set_reshape (v := (rsM.slice (rsRect d) (fun _ => rfl)).view) _).trans (View.set_slice_whole _ _)

/-! ## Contents -/

/-- What the five input windows stage on each device. -/
structure Ins (F : FTy → Type) where
  x : Dev nD → (cc0_stg0_0 : Ref sig .tc).ty.Contents (Elt F)
  q : Dev nD → (cc0_stg1_0 : Ref sig .tc).ty.Contents (Elt F)
  k : Dev nD → (cc0_stg2_0 : Ref sig .tc).ty.Contents (Elt F)
  v : Dev nD → (cc0_stg3_0 : Ref sig .tc).ty.Contents (Elt F)
  w : Dev nD → (cc0_stg4_0 : Ref sig .tc).ty.Contents (Elt F)

variable (I : Ins F)

/-! The rows the body loads from them: batch `b` of x, the Wq block, head `h` of batch `b` of k and v, block `j` of Wo. -/

abbrev ldX (c : Dev nD) (off : Fin 3 → ℕ) (inb : ∀ a, off a + S1x128x512.size a ≤ S2x128x512.size a) : Vec F S1x128x512 .f32 :=
  xM.view.readAt (Elt F) (Rect.unit (s := S2x128x512) off S1x128x512.size inb).toLoadRect (I.x c)
abbrev ldQ (c : Dev nD) : Vec F S512x256 .f32 :=
  qM.view.readAt (Elt F) (Rect.unit (s := S512x256) ![0, 0] S512x256.size inb_S512x256_S512x256_0_0).toLoadRect (I.q c)
abbrev ldK (c : Dev nD) (off : Fin 4 → ℕ) (inb : ∀ a, off a + S1x128x1x64.size a ≤ S2x128x4x64.size a) : Vec F S1x128x1x64 .f32 :=
  kM.view.readAt (Elt F) (Rect.unit (s := S2x128x4x64) off S1x128x1x64.size inb).toLoadRect (I.k c)
abbrev ldV (c : Dev nD) (off : Fin 4 → ℕ) (inb : ∀ a, off a + S1x128x1x64.size a ≤ S2x128x4x64.size a) : Vec F S1x128x1x64 .f32 :=
  vM.view.readAt (Elt F) (Rect.unit (s := S2x128x4x64) off S1x128x1x64.size inb).toLoadRect (I.v c)
abbrev ldW (c : Dev nD) (off : Fin 2 → ℕ) (inb : ∀ a, off a + S256x512.size a ≤ S2048x512.size a) : Vec F S256x512 .f32 :=
  wM.view.readAt (Elt F) (Rect.unit (s := S2048x512) off S256x512.size inb).toLoadRect (I.w c)

/-- Batch 0's four heads, side by side. -/
def half0 (c : Dev nD) : Vec F S128x256 .f32 :=
  k0_pay10
    (k0_pay2 (ldX I c ![0, 0, 0] inb_S2x128x512_S1x128x512_0_0_0) (ldQ I c)
      (ldK I c ![0, 0, 0, 0] inb_S2x128x4x64_S1x128x1x64_0_0_0_0) (ldV I c ![0, 0, 0, 0] inb_S2x128x4x64_S1x128x1x64_0_0_0_0))
    (k0_pay6 (k0_pay3 (ldV I c ![0, 0, 1, 0] inb_S2x128x4x64_S1x128x1x64_0_0_1_0))
      (k0_pay4 (ldX I c ![0, 0, 0] inb_S2x128x512_S1x128x512_0_0_0) (ldQ I c) (ldK I c ![0, 0, 1, 0] inb_S2x128x4x64_S1x128x1x64_0_0_1_0))
      (k0_pay5 (ldX I c ![0, 0, 0] inb_S2x128x512_S1x128x512_0_0_0) (ldQ I c) (ldK I c ![0, 0, 1, 0] inb_S2x128x4x64_S1x128x1x64_0_0_1_0)))
    (k0_pay7 (k0_pay1 (ldX I c ![0, 0, 0] inb_S2x128x512_S1x128x512_0_0_0) (ldQ I c))
      (ldK I c ![0, 0, 2, 0] inb_S2x128x4x64_S1x128x1x64_0_0_2_0) (ldV I c ![0, 0, 2, 0] inb_S2x128x4x64_S1x128x1x64_0_0_2_0))
    (k0_pay8 (ldV I c ![0, 0, 3, 0] inb_S2x128x4x64_S1x128x1x64_0_0_3_0))
    (k0_pay9 (k0_pay1 (ldX I c ![0, 0, 0] inb_S2x128x512_S1x128x512_0_0_0) (ldQ I c))
      (ldK I c ![0, 0, 3, 0] inb_S2x128x4x64_S1x128x1x64_0_0_3_0))

/-- Batch 1's. -/
def half1 (c : Dev nD) : Vec F S128x256 .f32 :=
  k0_pay17 (k0_pay16 (k0_pay11 (ldX I c ![1, 0, 0] inb_S2x128x512_S1x128x512_1_0_0) (ldQ I c))
    (k0_pay13 (k0_pay12 (ldX I c ![1, 0, 0] inb_S2x128x512_S1x128x512_1_0_0) (ldQ I c))
      (ldK I c ![1, 0, 0, 0] inb_S2x128x4x64_S1x128x1x64_1_0_0_0) (ldV I c ![1, 0, 0, 0] inb_S2x128x4x64_S1x128x1x64_1_0_0_0))
    (k0_pay14 (k0_pay11 (ldX I c ![1, 0, 0] inb_S2x128x512_S1x128x512_1_0_0) (ldQ I c))
      (ldK I c ![1, 0, 1, 0] inb_S2x128x4x64_S1x128x1x64_1_0_1_0) (ldV I c ![1, 0, 1, 0] inb_S2x128x4x64_S1x128x1x64_1_0_1_0))
    (k0_pay15 (k0_pay11 (ldX I c ![1, 0, 0] inb_S2x128x512_S1x128x512_1_0_0) (ldQ I c)))
    (ldK I c ![1, 0, 2, 0] inb_S2x128x4x64_S1x128x1x64_1_0_2_0) (ldV I c ![1, 0, 2, 0] inb_S2x128x4x64_S1x128x1x64_1_0_2_0)
    (ldK I c ![1, 0, 3, 0] inb_S2x128x4x64_S1x128x1x64_1_0_3_0) (ldV I c ![1, 0, 3, 0] inb_S2x128x4x64_S1x128x1x64_1_0_3_0))

/-- Device `c`'s `ctx` buffer: batch 0's rows, then batch 1's. -/
def ctxV (c : Dev nD) : (cc0_scratch0 : Ref sig .tc).ty.Contents (Elt F) := fun i =>
  if h : (i 0).val < 128 then half0 I c (ix2 ⟨(i 0).val, h⟩ ⟨(i 1).val, (i 1).isLt⟩)
  else half1 I c (ix2 ⟨(i 0).val - 128, by have : (i 0).val < 256 := (i 0).isLt; omega⟩ ⟨(i 1).val, (i 1).isLt⟩)

/-- Device `c`'s gathered rows: slot `d` is chunk `c` of device `d`'s `ctx`. -/
def rsV (c : Dev nD) : (cc0_scratch1 : Ref sig .tc).ty.Contents (Elt F) := fun i =>
  ctxV I ⟨(i 0).val, (i 0).isLt⟩ (ix2 ⟨32 * c.val + (i 1).val, by
    have h : (i 1).val < 32 := (i 1).isLt; have hc := c.isLt; change c.val < 8 at hc; omega⟩ ⟨(i 2).val, (i 2).isLt⟩)

/-- Slot `j` as the body loads it. -/
abbrev ldR (c : Dev nD) (off : Fin 3 → ℕ) (inb : ∀ a, off a + S1x32x256.size a ≤ S8x32x256.size a) : Vec F S1x32x256 .f32 :=
  rsM.view.readAt (Elt F) (Rect.unit (s := S8x32x256) off S1x32x256.size inb).toLoadRect (rsV I c)

/-- The first seven products summed. -/
def acc6 (c : Dev nD) : FVec F S32x512 .f32 :=
  k0_pay21
    (k0_pay19 (ldR I c ![0, 0, 0] inb_S8x32x256_S1x32x256_0_0_0) (ldW I c ![0, 0] inb_S2048x512_S256x512_0_0)
      (ldR I c ![1, 0, 0] inb_S8x32x256_S1x32x256_1_0_0) (ldW I c ![256, 0] inb_S2048x512_S256x512_256_0))
    (k0_pay20 (ldR I c ![2, 0, 0] inb_S8x32x256_S1x32x256_2_0_0)) (ldW I c ![512, 0] inb_S2048x512_S256x512_512_0)
    (ldR I c ![3, 0, 0] inb_S8x32x256_S1x32x256_3_0_0) (ldW I c ![768, 0] inb_S2048x512_S256x512_768_0)
    (ldR I c ![4, 0, 0] inb_S8x32x256_S1x32x256_4_0_0) (ldW I c ![1024, 0] inb_S2048x512_S256x512_1024_0)
    (ldR I c ![5, 0, 0] inb_S8x32x256_S1x32x256_5_0_0) (ldW I c ![1280, 0] inb_S2048x512_S256x512_1280_0)
    (ldR I c ![6, 0, 0] inb_S8x32x256_S1x32x256_6_0_0) (ldW I c ![1536, 0] inb_S2048x512_S256x512_1536_0)

/-- Device `c`'s 32 rows of the result. -/
def accV (c : Dev nD) : Vec F S32x512 .f32 :=
  k0_pay23 (acc6 I c) (k0_pay22 (ldR I c ![7, 0, 0] inb_S8x32x256_S1x32x256_7_0_0)) (ldW I c ![1792, 0] inb_S2048x512_S256x512_1792_0)

/-- The whole result, the same on every device: rows 32d.. are device `d`'s. -/
def outV : (cc0_stg5_0 : Ref sig .tc).ty.Contents (Elt F) := fun i =>
  accV I ⟨(i 0).val / 32, by have h : (i 0).val < 256 := (i 0).isLt; show (i 0).val / 32 < 8; omega⟩
    (ix2 ⟨(i 0).val % 32, Nat.mod_lt _ (by decide)⟩ ⟨(i 1).val, (i 1).isLt⟩)

/-! ## Points-tos over the regions -/

abbrev ctxPt (c d : Dev nD) (f : (cc0_scratch0 : Ref sig .tc).ty.Contents (Elt F)) : sProp 𝕄 := ((c : Thread nD τ).loc cc0_scratch0) ↦[ctxSet d]{fullShare} f
abbrev rsPt (c d : Dev nD) (f : (cc0_scratch1 : Ref sig .tc).ty.Contents (Elt F)) : sProp 𝕄 := ((c : Thread nD τ).loc cc0_scratch1) ↦[rsSet d]{fullShare} f
abbrev outPt (c d : Dev nD) (f : (cc0_stg5_0 : Ref sig .tc).ty.Contents (Elt F)) : sProp 𝕄 := ((c : Thread nD τ).loc cc0_stg5_0) ↦[outSet d]{fullShare} f
abbrev sbPt (c : Dev nD) (q : PosShare TreeShare) (f : (cc0_scratch2 : Ref sig .tc).ty.Contents (Elt F)) : sProp 𝕄 := ((c : Thread nD τ).loc cc0_scratch2) ↦{q} f
abbrev sbTok (d : Dev nD) : PosShare TreeShare := Transfers.shareTok fullShare 8 d

/-! ## The schedule -/

abbrev N1 : ℕ := (rsC 0).view.dmaCredit
abbrev N2 : ℕ := (outC 0).view.dmaCredit
theorem N1_pos : 0 < N1 := View.dmaCredit_pos _ (by decide)
theorem N2_pos : 0 < N2 := View.dmaCredit_pos _ (by decide)

/-- Paid to device c's barrier by device d: the two places on d that c's transfers land in, and that d's receive cells are open. -/
def barPay (c d : Dev nD) : sProp 𝕄 :=
  iprop((∃ f, rsPt d c f) ∗ (∃ f, outPt d c f) ∗ reached ER (oCell d kr0) 0 ∗ reached ER (oCell d kr1) 0)
/-- Paid to c's first receive cell by d: slot d, at d's chunk; to the second: rows 32d.. of the result, at d's rows. -/
def rsPay (c d : Dev nD) : sProp 𝕄 := rsPt c d (rsV I c)
def outPay (c d : Dev nD) : sProp 𝕄 := outPt c d (outV I)
/-- Paid to c's send cells when the copies to d have left: the chunk back; the share of the staged rows back. -/
def ctxPay (c d : Dev nD) : sProp 𝕄 := ctxPt c d (ctxV I c)
def sbPay (c d : Dev nD) : sProp 𝕄 := sbPt c (sbTok d) (accV I c)

/-- Device `d` pays something to cell `g`. -/
abbrev Pays (g : GSem nD τ sig) (d : Dev nD) : Prop :=
  d ≠ g.1.1 ∧ (g.2 = .reg barS ∨ g.2 = osem kr0 ∨ g.2 = osem kr1 ∨ g.2 = osem (k1 d) ∨ g.2 = osem (k2 d))

def Rd : Rounds.Schedule (GSem nD τ sig) (Dev nD) 𝕄 where
  duties g r := if r = 0 ∧ g.1.2 = .tc then Finset.univ.filter (Pays g) else ∅
  unitless _ := False
  amount g _ d := if g.2 = .reg barS then 1 else if g.2 = osem kr0 ∨ g.2 = osem (k1 d) then N1 else N2
  payload g _ d :=
    if g.2 = .reg barS then barPay g.1.1 d
    else if g.2 = osem kr0 then rsPay I g.1.1 d
    else if g.2 = osem kr1 then outPay I g.1.1 d
    else if g.2 = osem (k1 d) then ctxPay I g.1.1 d
    else if g.2 = osem (k2 d) then sbPay I g.1.1 d
    else iprop(emp)
  amount_pos g _ d _ := by
    by_cases h : g.2 = .reg barS
    · rw [if_pos h]; exact Nat.one_pos
    · rw [if_neg h]; split
      · exact N1_pos
      · exact N2_pos

instance Rd_payload_storable (g : GSem nD τ sig) (r : ℕ) (d : Dev nD) :
    BI.Storable (upEmb : UEmb _ 𝕄) ((Rd (F := F) I).payload g r d) := by
  show BI.Storable upEmb (if g.2 = .reg barS then barPay g.1.1 d
    else if g.2 = osem kr0 then rsPay I g.1.1 d
    else if g.2 = osem kr1 then outPay I g.1.1 d
    else if g.2 = osem (k1 d) then ctxPay I g.1.1 d
    else if g.2 = osem (k2 d) then sbPay I g.1.1 d
    else iprop(emp))
  unfold barPay rsPay outPay ctxPay sbPay
  (repeat' split) <;> infer_instance

section Sched

variable (c d : Dev nD)

theorem duties_of (g : GSem nD τ sig) (hg : g.1.2 = .tc) : (Rd (F := F) I).duties g 0 = Finset.univ.filter (Pays g) := by
  dsimp only [Rd]; exact if_pos ⟨rfl, hg⟩
theorem duties_later (g : GSem nD τ sig) (r : ℕ) (hr : 1 ≤ r) : (Rd (F := F) I).duties g r = ∅ := by
  dsimp only [Rd]; exact if_neg (fun h => by omega)

theorem duties_bar : (Rd (F := F) I).duties (barCell c) 0 = Finset.univ.erase c := by
  rw [duties_of I _ rfl]; ext e; simp [Pays]
theorem duties_r0 : (Rd (F := F) I).duties (oCell c kr0) 0 = Finset.univ.erase c := by
  rw [duties_of I _ rfl]; ext e; simp [Pays]
theorem duties_r1 : (Rd (F := F) I).duties (oCell c kr1) 0 = Finset.univ.erase c := by
  rw [duties_of I _ rfl]; ext e; simp [Pays]
theorem duties_s1 : (Rd (F := F) I).duties (oCell c (k1 d)) 0 = if d = c then ∅ else {d} := by
  rw [duties_of I _ rfl]; ext e
  simp only [Pays, Finset.mem_filter, Finset.mem_univ, true_and]
  constructor
  · rintro ⟨hne, h | h | h | h | h⟩
    · exact absurd h (osem_ne_bar _)
    · exact absurd (osem_inj h) (k1_ne_kr0 d)
    · exact absurd (osem_inj h) (k1_ne_kr1 d)
    · obtain rfl := k1_inj (osem_inj h); rw [if_neg hne]; exact Finset.mem_singleton_self _
    · exact absurd (osem_inj h) (k1_ne_k2 d e)
  · intro h
    split at h
    · exact absurd h (Finset.notMem_empty _)
    · next hne => obtain rfl := Finset.mem_singleton.mp h; exact ⟨hne, .inr (.inr (.inr (.inl rfl)))⟩
theorem duties_s2 : (Rd (F := F) I).duties (oCell c (k2 d)) 0 = if d = c then ∅ else {d} := by
  rw [duties_of I _ rfl]; ext e
  simp only [Pays, Finset.mem_filter, Finset.mem_univ, true_and]
  constructor
  · rintro ⟨hne, h | h | h | h | h⟩
    · exact absurd h (osem_ne_bar _)
    · exact absurd (osem_inj h) (k2_ne_kr0 d)
    · exact absurd (osem_inj h) (k2_ne_kr1 d)
    · exact absurd (osem_inj h).symm (k1_ne_k2 e d)
    · obtain rfl := k2_inj (osem_inj h); rw [if_neg hne]; exact Finset.mem_singleton_self _
  · intro h
    split at h
    · exact absurd h (Finset.notMem_empty _)
    · next hne => obtain rfl := Finset.mem_singleton.mp h; exact ⟨hne, .inr (.inr (.inr (.inr rfl)))⟩

theorem amount_bar : (Rd (F := F) I).amount (barCell c) 0 d = 1 := by dsimp only [Rd]; exact if_pos rfl
theorem amount_r0 : (Rd (F := F) I).amount (oCell c kr0) 0 d = N1 := by
  dsimp only [Rd]; rw [if_neg (osem_ne_bar _), if_pos (.inl rfl)]
theorem amount_s1 : (Rd (F := F) I).amount (oCell c (k1 d)) 0 d = N1 := by
  dsimp only [Rd]; rw [if_neg (osem_ne_bar _), if_pos (.inr rfl)]
theorem amount_r1 : (Rd (F := F) I).amount (oCell c kr1) 0 d = N2 := by
  dsimp only [Rd]; rw [if_neg (osem_ne_bar _), if_neg]
  rintro (h | h)
  · exact absurd (osem_inj h) (by decide)
  · exact absurd (osem_inj h).symm (k1_ne_kr1 d)
theorem amount_s2 : (Rd (F := F) I).amount (oCell c (k2 d)) 0 d = N2 := by
  dsimp only [Rd]; rw [if_neg (osem_ne_bar _), if_neg]
  rintro (h | h)
  · exact absurd (osem_inj h) (k2_ne_kr0 d)
  · exact absurd (osem_inj h).symm (k1_ne_k2 d d)

theorem payload_bar : (Rd (F := F) I).payload (barCell c) 0 d = barPay c d := by dsimp only [Rd]; exact if_pos rfl
theorem payload_r0 : (Rd (F := F) I).payload (oCell c kr0) 0 d = rsPay I c d := by
  dsimp only [Rd]; rw [if_neg (osem_ne_bar _), if_pos rfl]
theorem payload_r1 : (Rd (F := F) I).payload (oCell c kr1) 0 d = outPay I c d := by
  dsimp only [Rd]; rw [if_neg (osem_ne_bar _), if_neg (fun h => absurd (osem_inj h) (by decide)), if_pos rfl]
theorem payload_s1 : (Rd (F := F) I).payload (oCell c (k1 d)) 0 d = ctxPay I c d := by
  dsimp only [Rd]
  rw [if_neg (osem_ne_bar _), if_neg (fun h => absurd (osem_inj h) (k1_ne_kr0 d)), if_neg (fun h => absurd (osem_inj h) (k1_ne_kr1 d)), if_pos rfl]
theorem payload_s2 : (Rd (F := F) I).payload (oCell c (k2 d)) 0 d = sbPay I c d := by
  dsimp only [Rd]
  rw [if_neg (osem_ne_bar _), if_neg (fun h => absurd (osem_inj h) (k2_ne_kr0 d)), if_neg (fun h => absurd (osem_inj h) (k2_ne_kr1 d)),
    if_neg (fun h => absurd (osem_inj h).symm (k1_ne_k2 d d)), if_pos rfl]

theorem expect_bar : (Rd (F := F) I).expect (barCell c) 0 = 7 := by
  unfold Schedule.expect Schedule.amountOf
  rw [duties_bar, Finset.sum_congr rfl (fun e _ => amount_bar I c e), Finset.sum_const, Finset.card_erase_of_mem (Finset.mem_univ _)]; rfl
theorem expect_r0 : (Rd (F := F) I).expect (oCell c kr0) 0 = 7 * N1 := by
  unfold Schedule.expect Schedule.amountOf
  rw [duties_r0, Finset.sum_congr rfl (fun e _ => amount_r0 I c e), Finset.sum_const, Finset.card_erase_of_mem (Finset.mem_univ _)]; rfl
theorem expect_r1 : (Rd (F := F) I).expect (oCell c kr1) 0 = 7 * N2 := by
  unfold Schedule.expect Schedule.amountOf
  rw [duties_r1, Finset.sum_congr rfl (fun e _ => amount_r1 I c e), Finset.sum_const, Finset.card_erase_of_mem (Finset.mem_univ _)]; rfl
theorem expect_s1 (h : d ≠ c) : (Rd (F := F) I).expect (oCell c (k1 d)) 0 = N1 := by
  unfold Schedule.expect Schedule.amountOf; rw [duties_s1, if_neg h, Finset.sum_singleton, amount_s1]
theorem expect_s2 (h : d ≠ c) : (Rd (F := F) I).expect (oCell c (k2 d)) 0 = N2 := by
  unfold Schedule.expect Schedule.amountOf; rw [duties_s2, if_neg h, Finset.sum_singleton, amount_s2]

end Sched

end Cert.KernelIdeal.Talk
-- ==== Proof.Debt.lean ====
/-
  What each device owes, the levels that order the waits, and where the transfers' bytes land.
-/
module

public import proofs.«01_k».proof.Proof.Protocol
public import Idealize.ShloMosaic.Lib.ValueLayout
public import Idealize.ShloMosaic.Lib.Pipeline.ValueKit.Geometry

@[expose] public section

set_option maxRecDepth 16384

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.ValueKit

variable {F : FTy → Type} [FloatOps F]

local notation "𝕄" => MT nD τ sig Unit (Elt F) ℕ UU ℕ

/-! ## The other devices, from the k-th on and below the m-th -/

def Rem (k m : ℕ) (c : Dev nD) : Finset (Dev nD) := Finset.univ.filter fun d => k ≤ d.val ∧ d.val < m ∧ d ≠ c
theorem mem_Rem {k m : ℕ} {c d : Dev nD} : d ∈ Rem k m c ↔ k ≤ d.val ∧ d.val < m ∧ d ≠ c := by
  unfold Rem; rw [Finset.mem_filter]; exact and_iff_right (Finset.mem_univ _)
theorem Rem_step {k m : ℕ} {c d : Dev nD} (hk : d.val = k) (hm : k < m) (h : c ≠ d) : Rem k m c = insert d (Rem (k + 1) m c) := by
  ext e; rw [Finset.mem_insert, mem_Rem, mem_Rem]
  constructor
  · rintro ⟨h1, h2, h3⟩
    by_cases he : e = d
    · exact .inl he
    · exact .inr ⟨by have : e.val ≠ d.val := fun hh => he (Fin.ext hh); omega, h2, h3⟩
  · rintro (rfl | ⟨h1, h2, h3⟩)
    · exact ⟨by omega, by omega, h.symm⟩
    · exact ⟨by omega, h2, h3⟩
theorem notMem_Rem {k m : ℕ} {c d : Dev nD} (hk : d.val = k) : d ∉ Rem (k + 1) m c := by rw [mem_Rem]; omega
theorem Rem_skip {k m : ℕ} {c d : Dev nD} (hk : d.val = k) (h : ¬ c ≠ d) : Rem k m c = Rem (k + 1) m c := by
  obtain rfl := not_not.mp h
  ext e; rw [mem_Rem, mem_Rem]
  constructor
  · rintro ⟨h1, h2, h3⟩
    exact ⟨by have : e.val ≠ c.val := fun hh => h3 (Fin.ext hh); omega, h2, h3⟩
  · rintro ⟨h1, h2, h3⟩; exact ⟨by omega, h2, h3⟩
theorem Rem_full (c : Dev nD) : Rem 0 8 c = Finset.univ.erase c := by
  ext e; rw [mem_Rem, Finset.mem_erase]
  exact ⟨fun h => ⟨h.2.2, Finset.mem_univ _⟩, fun h => ⟨Nat.zero_le _, e.isLt, h.1⟩⟩
theorem Rem_done (k m : ℕ) (h : m ≤ k) (c : Dev nD) : Rem k m c = ∅ := by
  ext e; rw [mem_Rem]; exact iff_of_false (by omega) (Finset.notMem_empty _)
/-- Those before the k-th. -/
abbrev Don (k : ℕ) (c : Dev nD) : Finset (Dev nD) := Rem 0 k c
theorem Don_step {k : ℕ} {c d : Dev nD} (hk : d.val = k) (h : c ≠ d) : Don (k + 1) c = insert d (Don k c) := by
  ext e; rw [Finset.mem_insert, mem_Rem, mem_Rem]
  constructor
  · rintro ⟨h1, h2, h3⟩
    by_cases he : e = d
    · exact .inl he
    · exact .inr ⟨h1, by have : e.val ≠ d.val := fun hh => he (Fin.ext hh); omega, h3⟩
  · rintro (rfl | ⟨h1, h2, h3⟩)
    · exact ⟨by omega, by omega, h.symm⟩
    · exact ⟨by omega, by omega, h3⟩
theorem notMem_Don {k : ℕ} {c d : Dev nD} (hk : d.val = k) : d ∉ Don k c := by rw [mem_Rem]; omega
theorem Don_skip {k : ℕ} {c d : Dev nD} (hk : d.val = k) (h : ¬ c ≠ d) : Don (k + 1) c = Don k c := by
  obtain rfl := not_not.mp h
  ext e; rw [mem_Rem, mem_Rem]
  constructor
  · rintro ⟨h1, h2, h3⟩
    exact ⟨h1, by have : e.val ≠ c.val := fun hh => h3 (Fin.ext hh); omega, h3⟩
  · rintro ⟨h1, h2, h3⟩; exact ⟨h1, by omega, h3⟩

/-! ## Debts -/

/-- `n` units owed to the cell `g d` for every `d` of `S`. -/
def due (g : Dev nD → GSem nD τ sig) (n : ℕ) (S : Finset (Dev nD)) : CellTallies nD τ sig Unit := ∑ d ∈ S, tallyAt (g d) () n
theorem due_empty (g : Dev nD → GSem nD τ sig) (n : ℕ) : due g n ∅ = 0 := Finset.sum_empty
theorem due_insert (g : Dev nD → GSem nD τ sig) (n : ℕ) {S : Finset (Dev nD)} {d : Dev nD} (h : d ∉ S) :
    due g n (insert d S) = tallyAt (g d) () n + due g n S := Finset.sum_insert h
theorem due_pos (g : Dev nD → GSem nD τ sig) (n : ℕ) (S : Finset (Dev nD)) (h : GSem nD τ sig) (hp : 0 < due g n S h ()) : ∃ d ∈ S, h = g d := by
  induction S using Finset.induction_on with
  | empty => exact absurd hp (Nat.lt_irrefl 0)
  | insert d S hd ih =>
    rw [due_insert g n hd, Pi.add_apply, Finsupp.add_apply, tallyAt_apply] at hp
    by_cases hc : h = g d ∧ () = ()
    · exact ⟨d, Finset.mem_insert_self _ _, hc.1⟩
    · rw [if_neg hc, Nat.zero_add] at hp
      obtain ⟨e, he, hh⟩ := ih hp
      exact ⟨e, Finset.mem_insert_of_mem he, hh⟩

abbrev r0Cell (d : Dev nD) : GSem nD τ sig := oCell d kr0
abbrev r1Cell (d : Dev nD) : GSem nD τ sig := oCell d kr1
/-- The debts still open when the barriers of `S`, the first receive cells of `T` and the second ones of `U` are still to be paid. -/
def debt (S T U : Finset (Dev nD)) : CellTallies nD τ sig Unit := due barCell 1 S + (due r0Cell N1 T + due r1Cell N2 U)
theorem debt_bar {S T U : Finset (Dev nD)} {d : Dev nD} (h : d ∉ S) : debt (insert d S) T U = debt S T U + tallyAt (barCell d) () 1 := by
  unfold debt; rw [due_insert _ _ h]; ac_rfl
theorem debt_r0 {S T U : Finset (Dev nD)} {d : Dev nD} (h : d ∉ T) : debt S (insert d T) U = debt S T U + tallyAt (r0Cell d) () N1 := by
  unfold debt; rw [due_insert _ _ h]; ac_rfl
theorem debt_r1 {S T U : Finset (Dev nD)} {d : Dev nD} (h : d ∉ U) : debt S T (insert d U) = debt S T U + tallyAt (r1Cell d) () N2 := by
  unfold debt; rw [due_insert _ _ h]; ac_rfl
theorem debt_none : debt ∅ ∅ ∅ = 0 := by unfold debt; rw [due_empty, due_empty, due_empty, add_zero, add_zero]
theorem debt_pos (S T U : Finset (Dev nD)) (h : GSem nD τ sig) (hp : 0 < debt S T U h ()) :
    (∃ d ∈ S, h = barCell d) ∨ (∃ d ∈ T, h = r0Cell d) ∨ ∃ d ∈ U, h = r1Cell d := by
  unfold debt at hp
  rw [Pi.add_apply, Finsupp.add_apply, Pi.add_apply, Finsupp.add_apply] at hp
  by_cases h0 : 0 < due barCell 1 S h ()
  · exact .inl (due_pos _ _ _ _ h0)
  by_cases h1 : 0 < due r0Cell N1 T h ()
  · exact .inr (.inl (due_pos _ _ _ _ h1))
  · rw [Nat.eq_zero_of_not_pos h0, Nat.eq_zero_of_not_pos h1, Nat.zero_add, Nat.zero_add] at hp
    exact .inr (.inr (due_pos _ _ _ _ hp))

/-- Owed at launch. -/
def O₀ (c : Dev nD) : CellTallies nD τ sig Unit := debt (Finset.univ.erase c) (Finset.univ.erase c) (Finset.univ.erase c)

/-! ## Levels -/

def L (g : GSem nD τ sig) : Finset Unit := if g.1.2 = .tc then {()} else ∅
/-- The barrier cells at 1, the first receive cells at 2, the second ones at 3, the rest at 0. -/
def lv (g : GSem nD τ sig) (_ : Unit) : ℕ :=
  if g.2 = .reg barS then 1 else if g.2 = osem kr0 then 2 else if g.2 = osem kr1 then 3 else 0
theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by dsimp only [lv]; exact if_pos rfl
theorem lv_r0 (c : Dev nD) : lv (r0Cell c) () = 2 := by dsimp only [lv]; rw [if_neg (osem_ne_bar _), if_pos rfl]
theorem lv_r1 (c : Dev nD) : lv (r1Cell c) () = 3 := by
  dsimp only [lv]; rw [if_neg (osem_ne_bar _), if_neg (fun h => absurd (osem_inj h) (by decide)), if_pos rfl]

theorem debt_L (S T U : Finset (Dev nD)) (g : GSem nD τ sig) (u : Unit) (h : 0 < debt S T U g u) : u ∈ L g := by
  rcases debt_pos S T U g h with ⟨d, -, rfl⟩ | ⟨d, -, rfl⟩ | ⟨d, -, rfl⟩ <;> (rw [L_tc]; exact Finset.mem_singleton_self _)
theorem debt_lv (S T U : Finset (Dev nD)) (g : GSem nD τ sig) (u : Unit) (h : 0 < debt S T U g u) : 0 < lv g u := by
  rcases debt_pos S T U g h with ⟨d, -, rfl⟩ | ⟨d, -, rfl⟩ | ⟨d, -, rfl⟩
  · rw [lv_bar]; decide
  · rw [lv_r0]; decide
  · rw [lv_r1]; decide

theorem mayWait_bar (c : Dev nD) (T U : Finset (Dev nD)) :
    (levAts L lv : sProp 𝕄) ⊢ MayWait (c : Thread nD τ) (.reg barS) () (debt ∅ T U) :=
  MayOwe.of_cut (L := L) (lev := lv) 1 (fun p hp => by rw [Finset.mem_singleton.mp hp, L_tc]; exact Finset.mem_singleton_self _)
    (fun g u hg => debt_L _ _ _ g u hg) (fun p hp => by rw [Finset.mem_singleton.mp hp]; exact (lv_bar c).le)
    (fun g u hg => by
      rcases debt_pos _ _ _ g hg with ⟨d, hd, -⟩ | ⟨d, -, rfl⟩ | ⟨d, -, rfl⟩
      · exact absurd hd (Finset.notMem_empty _)
      · rw [lv_r0]; decide
      · rw [lv_r1]; decide)
theorem mayOwe_r0 (c : Dev nD) (U : Finset (Dev nD)) :
    (levAts L lv : sProp 𝕄) ⊢ MayOwe (c : Thread nD τ) {(osem kr0, ())} (debt ∅ ∅ U) :=
  MayOwe.of_cut (L := L) (lev := lv) 2 (fun p hp => by rw [Finset.mem_singleton.mp hp, L_tc]; exact Finset.mem_singleton_self _)
    (fun g u hg => debt_L _ _ _ g u hg) (fun p hp => by rw [Finset.mem_singleton.mp hp]; exact (lv_r0 c).le)
    (fun g u hg => by
      rcases debt_pos _ _ _ g hg with ⟨d, hd, -⟩ | ⟨d, hd, -⟩ | ⟨d, -, rfl⟩
      · exact absurd hd (Finset.notMem_empty _)
      · exact absurd hd (Finset.notMem_empty _)
      · rw [lv_r1]; decide)

/-! ## Where the bytes land -/

variable (I : Ins F)

theorem rsC_emb (d : Dev nD) (r : Fin 32) (l : Fin 256) (a : Fin 3) :
    ((rsC d).view.emb (ix2 r l) a : ℕ) = (![d.val, r.val, l.val] : Fin 3 → ℕ) a := by
  unfold rsC
  rw [show ((rsM.slice (rsRect d) (fun _ => rfl)).squeeze S32x256 squeezes_S1x32x256_S32x256).view.emb (ix2 r l)
    = (rsM.slice (rsRect d) (fun _ => rfl)).view.emb (Shape.reshapeEquiv _ (ix2 r l)) from rfl, reshapeEquiv_ix2_1ab]
  refine (view_emb_slice_whole_unit_val cc0_scratch1 _ _ _ _ a).trans ?_
  fin_cases a
  · exact Nat.add_zero _
  · exact Nat.zero_add _
  · exact Nat.zero_add _

/-- Chunk `d` of the sender's `ctx`, landed in the sender's slot on `d`, is what `d` gathers there. -/
theorem rs_landed (c d : Dev nD) (fd : (cc0_scratch1 : Ref sig .tc).ty.Contents (Elt F)) (i : (cc0_scratch1 : Ref sig .tc).ty.shape.Idx) (hi : i ∈ rsSet c) :
    (rsC c).view.write (Elt F) fd ((ctxC d).view.read (Elt F) (ctxV I c)) Finset.univ i = rsV I d i := by
  have h0 := mem_rsSet.mp hi
  have h1 : (i 1).val < 32 := (i 1).isLt
  have h2 : (i 2).val < 256 := (i 2).isLt
  have he : (rsC c).view.emb (ix2 ⟨(i 1).val, h1⟩ ⟨(i 2).val, h2⟩) = i := by
    funext a; apply Fin.ext; rw [rsC_emb]
    fin_cases a
    · exact h0.symm
    · rfl
    · rfl
  conv_lhs => rw [← he]
  rw [View.write_emb_of_mem _ _ (Finset.mem_univ _)]
  unfold rsV
  rw [show (⟨(i 0).val, (i 0).isLt⟩ : Dev nD) = c from Fin.ext h0]
  refine congrArg (ctxV I c) (funext fun a => Fin.ext ?_)
  refine (view_emb_slice_whole_unit_val cc0_scratch0 _ _ _ _ a).trans ?_
  fin_cases a
  · rfl
  · exact Nat.zero_add _

/-- The sender's rows, landed at its rows of any result. -/
theorem out_landed (c : Dev nD) (fd : (cc0_stg5_0 : Ref sig .tc).ty.Contents (Elt F)) (i : (cc0_stg5_0 : Ref sig .tc).ty.shape.Idx) (hi : i ∈ outSet c) :
    (outC c).view.write (Elt F) fd (sbM.view.read (Elt F) (accV I c)) Finset.univ i = outV I i := by
  have h0 := mem_outSet.mp hi
  have h1 : (i 1).val < 512 := (i 1).isLt
  have he : (outC c).view.emb (ix2 ⟨(i 0).val % 32, Nat.mod_lt _ (by decide)⟩ ⟨(i 1).val, h1⟩) = i := by
    funext a; apply Fin.ext
    refine (view_emb_slice_whole_unit_val cc0_stg5_0 _ _ _ _ a).trans ?_
    fin_cases a
    · show 32 * c.val + (i 0).val % 32 = (i 0).val
      omega
    · exact Nat.zero_add _
  conv_lhs => rw [← he]
  rw [View.write_emb_of_mem _ _ (Finset.mem_univ _)]
  unfold outV
  rw [show (⟨(i 0).val / 32, _⟩ : Dev nD) = c from Fin.ext h0]
  rfl

end Cert.KernelIdeal.Talk
-- ==== Proof.Steps.lean ====
/-
  The kernel's conditional steps, each done for every other device in turn: the entry signal, the sending of a chunk, the
  wait for a chunk, the sending of the result rows, the wait for result rows, the wait that a send has left.

  Each kind of step has a state indexed by how many devices it has been done for, and a lemma that takes the state from
  `k` to `k + 1` through the conditional for device `k`.
-/
module

public import proofs.«01_k».proof.Proof.Debt

@[expose] public section

set_option maxRecDepth 16384

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (I : Ins F) (K : GSem nD τ sig → ℕ) (c : Dev nD)

abbrev 𝒱₀ : Variants := Variants.none
abbrev PROG (α : Type) := Prog (TpuEff nD τ sig (Elt F) Λ₀ .tc) α

theorem bs_insert {X : Type} [DecidableEq X] {S : Finset X} {x : X} (h : x ∉ S) (Φ : X → sProp 𝕄) :
    bigSep (insert x S) Φ = iprop(Φ x ∗ bigSep S Φ) := bigSep_insert h
theorem bs_union {X : Type} [DecidableEq X] {S T : Finset X} (h : Disjoint S T) (Φ : X → sProp 𝕄) :
    bigSep (S ∪ T) Φ = iprop(bigSep S Φ ∗ bigSep T Φ) := bigSep_union h
theorem bs_elim {X : Type} [DecidableEq X] {S : Finset X} {x : X} (h : x ∈ S) (Φ : X → sProp 𝕄) : bigSep S Φ ⊢ Φ x := bigSep_elim h

/-! ## What every step may use -/

/-- The invariants of all cells; that the barrier cells are open. -/
def Recs : sProp 𝕄 :=
  iprop(bigSep Finset.univ (fun p : Dev nD × Fin 18 => cellInv ER (Rd I) (K (oCell p.1 p.2)) (oCell p.1 p.2))
    ∗ bigSep Finset.univ (fun d : Dev nD => iprop(cellInv ER (Rd I) (K (barCell d)) (barCell d) ∗ reached ER (barCell d) 0)))
instance Recs_persistent : BI.Persistent (Recs I K) := by unfold Recs; infer_instance
theorem Recs_o (d : Dev nD) (k : Fin 18) : Recs I K ⊢ cellInv ER (Rd I) (K (oCell d k)) (oCell d k) := by
  unfold Recs
  iintro ⟨H, -⟩
  iapply (bs_elim (Finset.mem_univ ((d, k) : Dev nD × Fin 18)) _) $$ H
theorem Recs_bar (d : Dev nD) : Recs I K ⊢ iprop(cellInv ER (Rd I) (K (barCell d)) (barCell d) ∗ reached ER (barCell d) 0) := by
  unfold Recs
  iintro ⟨-, H⟩
  iapply (bs_elim (Finset.mem_univ d) _) $$ H
/-- That device c's own cells are open. -/
def Opn : sProp 𝕄 := bigSep Finset.univ (fun k : Fin 18 => reached ER (oCell c k) 0)
instance Opn_persistent : BI.Persistent (Opn (F := F) c) := by unfold Opn; infer_instance
theorem Opn_k (k : Fin 18) : (Opn c : sProp 𝕄) ⊢ reached ER (oCell c k) 0 := by
  unfold Opn; exact bigSep_elim (Finset.mem_univ k)

/-! ## A conditional statement -/

/-- `if p then A else skip`, then `K`. -/
def condK {p : Prop} [Decidable p] (A : p → PROG (F := F) PUnit) {α : Type} (Kt : PROG (F := F) α) : PROG (F := F) α :=
  if h : p then A h >>= fun _ => Kt else Kt

theorem wp_condK {p : Prop} [Decidable p] (A : p → PROG (F := F) PUnit) {α : Type} (Kt : PROG (F := F) α) (Q : α → sProp 𝕄) (R S : sProp 𝕄)
    (h1 : ∀ h, iprop(R ∗ (S -∗ wp frame (wpE (defs₀ (F := F)) 𝒱₀ c none) Set.univ Kt Q)) ⊢ wp frame (wpE (defs₀ (F := F)) 𝒱₀ c none) Set.univ (A h >>= fun _ => Kt) Q)
    (h2 : ¬p → R ⊢ S) :
    R ⊢ iprop((S -∗ wp frame (wpE (defs₀ (F := F)) 𝒱₀ c none) Set.univ Kt Q) -∗ wp frame (wpE (defs₀ (F := F)) 𝒱₀ c none) Set.univ (condK A Kt) Q) := by
  unfold condK
  by_cases h : p
  · rw [dif_pos h]
    iintro HR Hk
    iapply (h1 h)
    isplitl [HR] <;> iassumption
  · rw [dif_neg h]
    iintro HR Hk
    iapply Hk
    iapply (h2 h) $$ HR

/-! ## The entry signals -/

def sigRes (k : ℕ) : sProp 𝕄 :=
  iprop(bigSep (Rem k 8 c) (fun d => iprop(dutyTok ER (barCell d) 0 c ∗ barPay d c))
    ∗ ∃ W, owes (c : Thread nD τ) (debt (Rem k 8 c) (Finset.univ.erase c) (Finset.univ.erase c)) W)

theorem sig_step {p : Prop} [Decidable p] (n : p → Dev nD) (s : Sem sig) {α : Type} (Kt : PROG (F := F) α) (Q : α → sProp 𝕄)
    (d : Dev nD) (k : ℕ) (hk : d.val = k) (hp : p ↔ c ≠ d) (hn : ∀ h, n h = d) (hs : s = barS) :
    iprop(Recs I K ∗ sigRes c k)
      ⊢ iprop((sigRes c (k + 1) -∗ wp frame (wpE (defs₀ (F := F)) 𝒱₀ c none) Set.univ Kt Q) -∗ wp frame (wpE (defs₀ (F := F)) 𝒱₀ c none) Set.univ (condK (fun h => semSignalWord (n h) s 1#32) Kt) Q) := by
  subst hs
  subst hk
  refine wp_condK c _ Kt Q _ _ (fun h => ?_) (fun h => ?_)
  · have hcd := hp.mp h
    rw [hn h]
    simp only [semSignalWord, Prog.bind_op, Prog.bind_ret]
    unfold sigRes
    rw [Rem_step (m := 8) rfl d.isLt hcd, bs_insert (notMem_Rem rfl), debt_bar (notMem_Rem rfl)]
    iintro ⟨⟨#Hrec, ⟨⟨Htok, Hpay⟩, Hrest⟩, ⟨%W, HO⟩⟩, Hk⟩
    ihave Hb := (Recs_bar I K d) $$ Hrec
    icases Hb with ⟨#Hi, #Hr⟩
    iapply (Rounds.wp_signal 𝒱₀ ER (Rd I) (c : Thread nD τ) none (dst := (d : Thread nD τ)) (sem := barS) (r := 0) (d := c) (κ := K (barCell d))
        (by rw [duties_bar]; exact Finset.mem_erase.mpr ⟨hcd, Finset.mem_univ _⟩) (amount_bar I d c) () _ rfl) $$ [HO Htok Hpay]
    · isplitr; · iexact Hi
      isplitl [HO]; · iexact HO
      isplitl [Htok]; · iexact Htok
      isplitl [Hpay]; · rw [payload_bar]; iexact Hpay
      iexact Hr
    iintro HO
    iapply Hk
    isplitl [Hrest]; · iexact Hrest
    iexists W; iexact HO
  · have hcd := fun h' => h (hp.mpr h')
    unfold sigRes
    rw [Rem_skip rfl hcd]
    iintro ⟨-, H⟩; iexact H

/-! ## The chunks' sends -/

def rsRes (k m : ℕ) : sProp 𝕄 :=
  iprop(bigSep (Rem k 8 c) (fun d => iprop(dutyTok ER (r0Cell d) 0 c ∗ dutyTok ER (oCell c (k1 d)) 0 d ∗ (∃ f, rsPt d c f) ∗ reached ER (r0Cell d) 0))
    ∗ bigSep (Rem k m c) (fun d => ctxPt c d (ctxV I c))
    ∗ bigSep (Don k c) (fun d => cred (tallyAt (oCell c (k1 d)) () N1))
    ∗ ∃ W, owes (c : Thread nD τ) (debt ∅ (Rem k 8 c) (Finset.univ.erase c)) W)

/-- The send of a chunk. -/
abbrev rsSend (n : Dev nD) (o1 : Fin 2 → ℕ) (i1 : ∀ a, o1 a + S32x256.size a ≤ S256x256.size a)
    (o2 : Fin 3 → ℕ) (i2 : ∀ a, o2 a + S1x32x256.size a ≤ S8x32x256.size a) (s1 s2 : DmaSem sig) : PROG (F := F) PUnit :=
  Prog.lift (.enqueueDma (ctxM.slice (Rect.unit (s := S256x256) o1 S32x256.size i1) (fun _ => rfl))
    (.remote (Dev.tc n) ((rsM.slice (Rect.unit (s := S8x32x256) o2 S1x32x256.size i2) (fun _ => rfl)).squeeze S32x256 squeezes_S1x32x256_S32x256) (.dma s1)) (.dma s2)
    (View.wordExact_bits rfl) ((View.wordExact_bits rfl).reshape _ _) ⟨⟨rfl, Or.inl rfl⟩, trivial⟩)

theorem rs_step {p : Prop} [Decidable p] (n : p → Dev nD) (o1 : Fin 2 → ℕ) (i1) (o2 : Fin 3 → ℕ) (i2 : p → _) (s1 s2 : DmaSem sig)
    {α : Type} (Kt : PROG (F := F) α) (Q : α → sProp 𝕄)
    (d : Dev nD) (k m : ℕ) (hk : d.val = k) (hm : k < m) (hp : p ↔ c ≠ d) (hn : ∀ h, n h = d) (ho1 : o1 = ![32 * d.val, 0]) (ho2 : o2 = ![c.val, 0, 0])
    (hs1 : SemLoc.dma s1 = osem (k1 d)) (hs2 : SemLoc.dma s2 = osem kr0) :
    iprop(Recs I K ∗ Opn c ∗ rsRes I c k m)
      ⊢ iprop((rsRes I c (k + 1) m -∗ wp frame (wpE (defs₀ (F := F)) 𝒱₀ c none) Set.univ Kt Q) -∗ wp frame (wpE (defs₀ (F := F)) 𝒱₀ c none) Set.univ (condK (fun h => rsSend (n h) o1 i1 o2 (i2 h) s1 s2) Kt) Q) := by
  subst ho1 ho2
  subst hk
  refine wp_condK c _ Kt Q _ _ (fun h => ?_) (fun h => ?_)
  · have hcd := hp.mp h
    rw [hn h]
    simp only [rsSend, Prog.lift, Prog.bind_op, Prog.bind_ret]
    unfold rsRes
    rw [Rem_step (m := 8) rfl d.isLt hcd, Rem_step (m := m) rfl hm hcd, bs_insert (notMem_Rem rfl), bs_insert (notMem_Rem rfl),
      debt_r0 (notMem_Rem rfl), Don_step rfl hcd, bs_insert (notMem_Don rfl)]
    iintro ⟨⟨#Hrec, #Hopn, ⟨⟨Ht2, Ht1, ⟨%fd, Hdst⟩, #Hr2⟩, Hrest⟩, ⟨Hsrc, Hctx⟩, Hcr, ⟨%W, HO⟩⟩, Hk⟩
    ihave #Hi1 := (Recs_o I K c (k1 d)) $$ Hrec
    ihave #Hi2 := (Recs_o I K d kr0) $$ Hrec
    ihave #Hr1 := (Opn_k c (k1 d)) $$ Hopn
    iapply (Rounds.wp_send_pointsTo 𝒱₀ ER (Rd I) (c : Thread nD τ) none (c' := (d : Thread nD τ)) (src := ctxC d) (dst := rsC c)
        (sS := .dma s1) (sem := .dma s2) (q := fullShare) (fs := ctxV I c) (fd := fd) (κ₁ := K (oCell c (k1 d))) (κ₂ := K (r0Cell d))
        (r₁ := 0) (r₂ := 0) (d₁ := d) (d₂ := c)
        (by rw [hs1]; show d ∈ (Rd I).duties (oCell c (k1 d)) 0; rw [duties_s1, if_neg hcd.symm]; exact Finset.mem_singleton_self _)
        (by rw [hs2]; show c ∈ (Rd I).duties (r0Cell d) 0; rw [duties_r0]; exact Finset.mem_erase.mpr ⟨hcd, Finset.mem_univ _⟩)
        () () N1 rfl (by rw [hs1]; exact amount_s1 I c d) (by rw [hs2]; exact amount_r0 I d c) _ (by rw [hs2]) (W := W)
        (by
          rw [hs1]; refine BI.Entails.trans ?_ (Entails.of_eq (payload_s1 I c d).symm)
          unfold ctxPay ctxPt; rw [ctxC_set]; exact BI.Entails.refl _)
        (by
          rw [hs2]; refine BI.Entails.trans ?_ (Entails.of_eq (payload_r0 I d c).symm)
          unfold rsPay rsPt; rw [rsC_set]
          exact Entails.of_eq (pointsTo_congr (fun i hi => rs_landed I c d fd i hi)))) $$ [Hsrc Hdst HO Ht1 Ht2]
    · rw [hs1, hs2]
      isplitr; · iexact Hi1
      isplitr; · iexact Hi2
      isplitl [Hsrc]; · rw [ctxC_set]; iexact Hsrc
      isplitl [Hdst]; · rw [rsC_set]; iexact Hdst
      isplitl [HO]; · iexact HO
      isplitl [Ht1]; · iexact Ht1
      isplitr; · iexact Hr1
      isplitl [Ht2]; · iexact Ht2
      iexact Hr2
    rw [hs1]
    iintro ⟨HcS, HO⟩
    iapply Hk
    isplitl [Hrest]; · iexact Hrest
    isplitl [Hctx]; · iexact Hctx
    isplitl [HcS Hcr]
    · isplitl [HcS]; · iexact HcS
      iexact Hcr
    iexists W; iexact HO
  · have hcd := fun h' => h (hp.mpr h')
    unfold rsRes
    rw [Rem_skip (m := 8) rfl hcd, Rem_skip (m := m) rfl hcd, Don_skip rfl hcd]
    iintro ⟨-, -, H⟩; iexact H

/-! ## The waits for what the others send -/

/-- Waiting on the receive cell `kr`, for `N` each time: the credits left, the position, the places that have come. -/
def rvRes (kr : Fin 18) (N : ℕ) (pay : Dev nD → sProp 𝕄) (O : CellTallies nD τ sig Unit) (k : ℕ) : sProp 𝕄 :=
  iprop(bigSep (Rem k 8 c) (fun _ => cred (tallyAt (oCell c kr) () N))
    ∗ (∃ S, ∃ n, ⌜S ⊆ Finset.univ.erase c ∧ n + (Rem k 8 c).card = 7 ∧ n * N + (Finset.univ.erase c \ S).card ≤ 7 * N⌝
        ∗ atPos ER (oCell c kr) 0 S (n * N) ∗ bigSep S pay)
    ∗ ∃ W, owes (c : Thread nD τ) O W)

theorem rv_step (kr : Fin 18) (N : ℕ) (pay : Dev nD → sProp 𝕄) (O : CellTallies nD τ sig Unit)
    (hD : (Rd I).duties (oCell c kr) 0 = Finset.univ.erase c) (hE : (Rd I).expect (oCell c kr) 0 = 7 * N)
    (hP : ∀ d, (Rd I).payload (oCell c kr) 0 d = pay d) (hL : (levAts L lv : sProp 𝕄) ⊢ MayOwe (c : Thread nD τ) {(osem kr, ())} O)
    {p : Prop} [Decidable p] (s : DmaSem sig) {sA sB : Shape} {eA eB : EltTy}
    (src : Memref sig .tc .vmem sA eA) (dst : Memref sig .tc .vmem sB eB) (h1) (h2)
    {α : Type} (Kt : PROG (F := F) α) (Q : α → sProp 𝕄)
    (d : Dev nD) (k : ℕ) (hk : d.val = k) (hp : p ↔ c ≠ d) (hs : SemLoc.dma s = osem kr) (hN : dst.view.dmaCredit = N) :
    iprop(Recs I K ∗ levAts L lv ∗ rvRes c kr N pay O k)
      ⊢ iprop((rvRes c kr N pay O (k + 1) -∗ wp frame (wpE (defs₀ (F := F)) 𝒱₀ c none) Set.univ Kt Q) -∗ wp frame (wpE (defs₀ (F := F)) 𝒱₀ c none) Set.univ (condK (p := p) (fun _ => Prog.lift (.waitDma2 s src dst h1 h2)) Kt) Q) := by
  subst hk
  refine wp_condK c _ Kt Q _ _ (fun h => ?_) (fun h => ?_)
  · have hcd := hp.mp h
    simp only [Prog.lift, Prog.bind_op, Prog.bind_ret]
    unfold rvRes
    rw [Rem_step (m := 8) rfl d.isLt hcd, bs_insert (notMem_Rem rfl), Finset.card_insert_of_notMem (notMem_Rem rfl)]
    iintro ⟨⟨#Hrec, #Hlev, ⟨Hc, Hcs⟩, ⟨%S, %n, %hn, Hat, Hpay⟩, ⟨%W, HO⟩⟩, Hk⟩
    obtain ⟨hS, hn, hle⟩ := hn
    ihave #Hi := (Recs_o I K c kr) $$ Hrec
    iapply (Rounds.wp_wait 𝒱₀ ER (Rd I) (c : Thread nD τ) none (κ := K (oCell c kr)) (sm := osem kr) (k' := N)
        (fun Kx => by rw [wpE_waitDma2_eq, hs, hN]) (Set.mem_univ _) (cr := Finsupp.single () N) (O := O) (W := W) {(osem kr, ())} (R := 0) (m := n * N) (T := S)
        (Util.total_single _ _) (image_single_subset (osem kr) () N)) $$ [Hc HO Hat]
    · isplitr; · iexact Hi
      isplitl [Hc]; · iexact Hc
      isplitl [HO]; · iexact HO
      isplitr; · iapply hL; iexact Hlev
      iexact Hat
    iintro %S' ⟨%hS', HO, Hat, Hnew⟩
    obtain ⟨hTS, hSD, hSE⟩ := hS'
    rw [hD] at hSD hSE
    rw [hE] at hSE
    iapply Hk
    isplitl [Hcs]; · iexact Hcs
    isplitr [HO]
    · iexists S', (n + 1)
      isplitr; · ipureintro; exact ⟨hSD, by omega, by rw [Nat.succ_mul]; exact hSE⟩
      isplitl [Hat]; · rw [Nat.succ_mul]; iexact Hat
      rw [show bigSep S' pay = iprop(bigSep S pay ∗ bigSep (S' \ S) pay) by
        rw [← bs_union Finset.disjoint_sdiff, Finset.union_sdiff_of_subset hTS]]
      isplitl [Hpay]; · iexact Hpay
      iapply (Entails.of_eq (bigSep_congr (fun e _ => hP e))) $$ Hnew
    iexists _; iexact HO
  · have hcd := fun h' => h (hp.mpr h')
    unfold rvRes
    rw [Rem_skip (m := 8) rfl hcd]
    iintro ⟨-, -, H⟩; iexact H

/-- All have come: the cell is closed, its counter back at zero. -/
theorem rv_done (kr : Fin 18) (N : ℕ) (pay : Dev nD → sProp 𝕄) (O : CellTallies nD τ sig Unit)
    (hD : (Rd I).duties (oCell c kr) 0 = Finset.univ.erase c) (hE : (Rd I).expect (oCell c kr) 0 = 7 * N) :
    iprop(Recs I K ∗ rvRes c kr N pay O 8)
      ⊢ (|={Set.univ}=> (semVal (oCell c kr) 0 ∗ bigSep (Finset.univ.erase c) pay ∗ ∃ W, owes (c : Thread nD τ) O W) : sProp 𝕄) := by
  unfold rvRes
  rw [Rem_done 8 8 le_rfl, Finset.card_empty, bigSep_empty]
  iintro ⟨#Hrec, -, ⟨%S, %n, %hn, Hat, Hpay⟩, HO⟩
  obtain ⟨hS, hn, hle⟩ := hn
  obtain rfl : n = 7 := by omega
  obtain rfl : S = Finset.univ.erase c := by
    refine Finset.Subset.antisymm hS (Finset.sdiff_eq_empty_iff_subset.mp (Finset.card_eq_zero.mp ?_)); omega
  ihave #Hi := (Recs_o I K c kr) $$ Hrec
  imod (Rounds.fupd_skip ER (Rd I) (g := oCell c kr) (κ := K (oCell c kr)) (R := 0) (m := 7 * N) (T := Finset.univ.erase c) hD.le hE.symm (Es := Set.univ) (Set.mem_univ _)) $$ [Hat] with ⟨Hat, -⟩
  · isplitr; · iexact Hi
    iexact Hat
  imod (Rounds.cell_close ER (Rd I) (Set.mem_univ (K (oCell c kr))) id (duties_later I (oCell c kr))) $$ [Hat] with H0
  · isplitr; · iexact Hi
    iexact Hat
  imodintro
  isplitl [H0]; · iexact H0
  isplitl [Hpay]; · iexact Hpay
  iexact HO

/-! ## The result rows' sends -/

def outRes (k : ℕ) : sProp 𝕄 :=
  iprop(bigSep (Rem k 8 c) (fun d => iprop(dutyTok ER (r1Cell d) 0 c ∗ dutyTok ER (oCell c (k2 d)) 0 d ∗ (∃ f, outPt d c f) ∗ reached ER (r1Cell d) 0))
    ∗ bigSep (Rem k 8 c) (fun d => sbPt c (sbTok d) (accV I c))
    ∗ bigSep (Don k c) (fun d => cred (tallyAt (oCell c (k2 d)) () N2))
    ∗ ∃ W, owes (c : Thread nD τ) (debt ∅ ∅ (Rem k 8 c)) W)

abbrev outSend (n : Dev nD) (o2 : Fin 2 → ℕ) (i2 : ∀ a, o2 a + S32x512.size a ≤ S256x512.size a) (s1 s2 : DmaSem sig) : PROG (F := F) PUnit :=
  Prog.lift (.enqueueDma sbM (.remote (Dev.tc n) (oM.slice (Rect.unit (s := S256x512) o2 S32x512.size i2) (fun _ => rfl)) (.dma s1)) (.dma s2)
    (Memref.isWhole_whole _).wordExact (View.wordExact_bits rfl) ⟨⟨rfl, Or.inl rfl⟩, trivial⟩)

theorem out_step {p : Prop} [Decidable p] (n : p → Dev nD) (o2 : Fin 2 → ℕ) (i2 : p → _) (s1 s2 : DmaSem sig)
    {α : Type} (Kt : PROG (F := F) α) (Q : α → sProp 𝕄)
    (d : Dev nD) (k : ℕ) (hk : d.val = k) (hp : p ↔ c ≠ d) (hn : ∀ h, n h = d) (ho2 : o2 = ![32 * c.val, 0])
    (hs1 : SemLoc.dma s1 = osem (k2 d)) (hs2 : SemLoc.dma s2 = osem kr1) :
    iprop(Recs I K ∗ Opn c ∗ outRes I c k)
      ⊢ iprop((outRes I c (k + 1) -∗ wp frame (wpE (defs₀ (F := F)) 𝒱₀ c none) Set.univ Kt Q) -∗ wp frame (wpE (defs₀ (F := F)) 𝒱₀ c none) Set.univ (condK (fun h => outSend (n h) o2 (i2 h) s1 s2) Kt) Q) := by
  subst ho2
  subst hk
  refine wp_condK c _ Kt Q _ _ (fun h => ?_) (fun h => ?_)
  · have hcd := hp.mp h
    rw [hn h]
    simp only [outSend, Prog.lift, Prog.bind_op, Prog.bind_ret]
    unfold outRes
    rw [Rem_step (m := 8) rfl d.isLt hcd, bs_insert (notMem_Rem rfl), bs_insert (notMem_Rem rfl),
      debt_r1 (notMem_Rem rfl), Don_step rfl hcd, bs_insert (notMem_Don rfl)]
    iintro ⟨⟨#Hrec, #Hopn, ⟨⟨Ht2, Ht1, ⟨%fd, Hdst⟩, #Hr2⟩, Hrest⟩, ⟨Hsrc, Hsb⟩, Hcr, ⟨%W, HO⟩⟩, Hk⟩
    ihave #Hi1 := (Recs_o I K c (k2 d)) $$ Hrec
    ihave #Hi2 := (Recs_o I K d kr1) $$ Hrec
    ihave #Hr1 := (Opn_k c (k2 d)) $$ Hopn
    iapply (Rounds.wp_send_pointsTo 𝒱₀ ER (Rd I) (c : Thread nD τ) none (c' := (d : Thread nD τ)) (src := sbM) (dst := outC c)
        (sS := .dma s1) (sem := .dma s2) (q := sbTok d) (fs := accV I c) (fd := fd) (κ₁ := K (oCell c (k2 d))) (κ₂ := K (r1Cell d))
        (r₁ := 0) (r₂ := 0) (d₁ := d) (d₂ := c)
        (by rw [hs1]; show d ∈ (Rd I).duties (oCell c (k2 d)) 0; rw [duties_s2, if_neg hcd.symm]; exact Finset.mem_singleton_self _)
        (by rw [hs2]; show c ∈ (Rd I).duties (r1Cell d) 0; rw [duties_r1]; exact Finset.mem_erase.mpr ⟨hcd, Finset.mem_univ _⟩)
        () () N2 rfl (by rw [hs1]; exact amount_s2 I c d) (by rw [hs2]; exact amount_r1 I d c) _ (by rw [hs2]) (W := W)
        (by
          rw [hs1]; refine BI.Entails.trans ?_ (Entails.of_eq (payload_s2 I c d).symm)
          unfold sbPay sbPt; rw [View.set_whole]; exact BI.Entails.refl _)
        (by
          rw [hs2]; refine BI.Entails.trans ?_ (Entails.of_eq (payload_r1 I d c).symm)
          unfold outPay outPt; rw [outC_set]
          exact Entails.of_eq (pointsTo_congr (fun i hi => out_landed I c fd i hi)))) $$ [Hsrc Hdst HO Ht1 Ht2]
    · rw [hs1, hs2]
      isplitr; · iexact Hi1
      isplitr; · iexact Hi2
      isplitl [Hsrc]; · rw [View.set_whole]; iexact Hsrc
      isplitl [Hdst]; · rw [outC_set]; iexact Hdst
      isplitl [HO]; · iexact HO
      isplitl [Ht1]; · iexact Ht1
      isplitr; · iexact Hr1
      isplitl [Ht2]; · iexact Ht2
      iexact Hr2
    rw [hs1]
    iintro ⟨HcS, HO⟩
    iapply Hk
    isplitl [Hrest]; · iexact Hrest
    isplitl [Hsb]; · iexact Hsb
    isplitl [HcS Hcr]
    · isplitl [HcS]; · iexact HcS
      iexact Hcr
    iexists W; iexact HO
  · have hcd := fun h' => h (hp.mpr h')
    unfold outRes
    rw [Rem_skip (m := 8) rfl hcd, Don_skip rfl hcd]
    iintro ⟨-, -, H⟩; iexact H

/-! ## The waits that the sends have left -/

def finRes (k : ℕ) : sProp 𝕄 :=
  iprop(bigSep (Rem k 8 c) (fun d => iprop(cred (tallyAt (oCell c (k1 d)) () N1) ∗ cred (tallyAt (oCell c (k2 d)) () N2)))
    ∗ bigSep (Rem k 8 c) (fun d => iprop(atPos ER (oCell c (k1 d)) 0 ∅ 0 ∗ atPos ER (oCell c (k2 d)) 0 ∅ 0))
    ∗ bigSep (Don k c) (fun d => iprop(semVal (oCell c (k1 d)) 0 ∗ semVal (oCell c (k2 d)) 0))
    ∗ bigSep (Don k c) (ctxPay I c) ∗ bigSep (Don k c) (sbPay I c)
    ∗ ∃ W, owes (c : Thread nD τ) (0 : CellTallies nD τ sig Unit) W)

theorem rest_s1 (d : Dev nD) (h : c ≠ d) :
    bigSep ((Rd I).duties (oCell c (k1 d)) 0 \ ∅) (fun e => (Rd I).payload (oCell c (k1 d)) 0 e) = ctxPay I c d := by
  rw [Finset.sdiff_empty, duties_s1, if_neg h.symm, bigSep_singleton, payload_s1]
theorem rest_s2 (d : Dev nD) (h : c ≠ d) :
    bigSep ((Rd I).duties (oCell c (k2 d)) 0 \ ∅) (fun e => (Rd I).payload (oCell c (k2 d)) 0 e) = sbPay I c d := by
  rw [Finset.sdiff_empty, duties_s2, if_neg h.symm, bigSep_singleton, payload_s2]

theorem fin_step {p : Prop} [Decidable p] (s1 s2 : DmaSem sig) {sA sB sC sD : Shape} {eA eB eC eD : EltTy}
    (src1 : p → Memref sig .tc .vmem sA eA) (dst1 : Memref sig .tc .vmem sB eB) (h11 : ∀ h, (src1 h).view.WordExact) (h12)
    (src2 : p → Memref sig .tc .vmem sC eC) (dst2 : Memref sig .tc .vmem sD eD) (h21 : ∀ h, (src2 h).view.WordExact) (h22)
    {α : Type} (Kt : PROG (F := F) α) (Q : α → sProp 𝕄)
    (d : Dev nD) (k : ℕ) (hk : d.val = k) (hp : p ↔ c ≠ d) (hs1 : SemLoc.dma s1 = osem (k1 d)) (hs2 : SemLoc.dma s2 = osem (k2 d))
    (hN1 : dst1.view.dmaCredit = N1) (hN2 : dst2.view.dmaCredit = N2) :
    iprop(Recs I K ∗ finRes I c k)
      ⊢ iprop((finRes I c (k + 1) -∗ wp frame (wpE (defs₀ (F := F)) 𝒱₀ c none) Set.univ Kt Q) -∗ wp frame (wpE (defs₀ (F := F)) 𝒱₀ c none) Set.univ (condK (p := p) (fun h =>
          Prog.lift (.waitDma2 s1 (src1 h) dst1 (h11 h) h12) >>= fun _ => Prog.lift (.waitDma2 s2 (src2 h) dst2 (h21 h) h22)) Kt) Q) := by
  subst hk
  refine wp_condK c _ Kt Q _ _ (fun h => ?_) (fun h => ?_)
  · have hcd := hp.mp h
    simp only [Prog.lift, Prog.bind_op, Prog.bind_ret]
    unfold finRes
    rw [Rem_step (m := 8) rfl d.isLt hcd, bs_insert (notMem_Rem rfl), bs_insert (notMem_Rem rfl), Don_step rfl hcd,
      bs_insert (notMem_Don rfl), bs_insert (notMem_Don rfl), bs_insert (notMem_Don rfl)]
    iintro ⟨⟨#Hrec, ⟨⟨Hc1, Hc2⟩, Hcs⟩, ⟨⟨Ha1, Ha2⟩, Has⟩, Hsv, Hctx, Hsb, ⟨%W, HO⟩⟩, Hk⟩
    ihave #Hi1 := (Recs_o I K c (k1 d)) $$ Hrec
    ihave #Hi2 := (Recs_o I K c (k2 d)) $$ Hrec
    iapply (Rounds.wp_wait_rest_token 𝒱₀ ER (Rd I) (c : Thread nD τ) none (κ := K (oCell c (k1 d))) (sm := osem (k1 d)) (k' := N1)
        (fun Kx => by rw [wpE_waitDma2_eq, hs1, hN1]) (Set.mem_univ _) () (O := 0) (W := W) (R := 0) (m := 0) (T := ∅)
        ((Nat.zero_add _).trans (expect_s1 I c d hcd.symm).symm)) $$ [Hc1 HO Ha1]
    · isplitr; · iexact Hi1
      isplitl [Hc1]; · iexact Hc1
      isplitl [HO]; · iexact HO
      isplitr; · rw [MayWait_zero]; iempintro
      iexact Ha1
    iintro ⟨HO, Ha1, -, Hp1⟩
    iapply (Rounds.wp_wait_rest_token 𝒱₀ ER (Rd I) (c : Thread nD τ) none (κ := K (oCell c (k2 d))) (sm := osem (k2 d)) (k' := N2)
        (fun Kx => by rw [wpE_waitDma2_eq, hs2, hN2]) (Set.mem_univ _) () (O := 0) (W := insert (osem (k1 d), ()) W) (R := 0) (m := 0) (T := ∅)
        ((Nat.zero_add _).trans (expect_s2 I c d hcd.symm).symm)) $$ [Hc2 HO Ha2]
    · isplitr; · iexact Hi2
      isplitl [Hc2]; · iexact Hc2
      isplitl [HO]; · iexact HO
      isplitr; · rw [MayWait_zero]; iempintro
      iexact Ha2
    iintro ⟨HO, Ha2, -, Hp2⟩
    imod (Rounds.cell_close ER (Rd I) (Set.mem_univ (K (oCell c (k1 d)))) id (duties_later I (oCell c (k1 d)))) $$ [Ha1] with H1
    · isplitr; · iexact Hi1
      iexact Ha1
    imod (Rounds.cell_close ER (Rd I) (Set.mem_univ (K (oCell c (k2 d)))) id (duties_later I (oCell c (k2 d)))) $$ [Ha2] with H2
    · isplitr; · iexact Hi2
      iexact Ha2
    iapply Hk
    isplitl [Hcs]; · iexact Hcs
    isplitl [Has]; · iexact Has
    isplitl [H1 H2 Hsv]
    · isplitr [Hsv]
      · isplitl [H1] <;> iassumption
      iexact Hsv
    isplitl [Hp1 Hctx]
    · isplitl [Hp1]
      · iapply (Entails.of_eq (rest_s1 I c d hcd)) $$ Hp1
      iexact Hctx
    isplitl [Hp2 Hsb]
    · isplitl [Hp2]
      · iapply (Entails.of_eq (rest_s2 I c d hcd)) $$ Hp2
      iexact Hsb
    iexists _; iexact HO
  · have hcd := fun h' => h (hp.mpr h')
    unfold finRes
    rw [Rem_skip (m := 8) rfl hcd, Don_skip rfl hcd]
    iintro ⟨-, H⟩; iexact H

end Cert.KernelIdeal.Talk
-- ==== Proof.Forms.lean ====
/-
  The parts of the body that hold conditionals, written once as loops over the devices: eight conditionals in a row, each
  for one device, are one statement repeated.
-/
module

public import proofs.«01_k».proof.Proof.Steps

@[expose] public section

set_option maxRecDepth 16384

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (I : Ins F) (K : GSem nD τ sig → ℕ) (c : Dev nD)

/-- `A d` for every `d` of the list, then `Kt`. -/
def each (l : List (Dev nD)) (A : Dev nD → ∀ {α : Type}, PROG (F := F) α → PROG (F := F) α) {α : Type} (Kt : PROG (F := F) α) : PROG (F := F) α :=
  l.foldr (fun d Kx => A d Kx) Kt

/-- The list is the devices from the k-th up to the one before the m-th, in order. -/
def InOrder : ℕ → List (Dev nD) → ℕ → Prop
  | k, [], m => k = m
  | k, d :: l, m => d.val = k ∧ InOrder (k + 1) l m

theorem each_wp (A : Dev nD → ∀ {α : Type}, PROG (F := F) α → PROG (F := F) α) (P : sProp 𝕄) [BI.Persistent P] (X : ℕ → sProp 𝕄) (M : ℕ) {α : Type} (Q : α → sProp 𝕄)
    (hA : ∀ (d : Dev nD) (k : ℕ) (Kt : PROG (F := F) α), d.val = k → k < M →
      iprop(P ∗ X k) ⊢ iprop((X (k + 1) -∗ wp frame (wpE (defs₀ (F := F)) 𝒱₀ c none) Set.univ Kt Q)
        -∗ wp frame (wpE (defs₀ (F := F)) 𝒱₀ c none) Set.univ (A d Kt) Q)) :
    ∀ (l : List (Dev nD)) (k m : ℕ) (Kt : PROG (F := F) α), InOrder k l m → m ≤ M →
      iprop(P ∗ X k) ⊢ iprop((X m -∗ wp frame (wpE (defs₀ (F := F)) 𝒱₀ c none) Set.univ Kt Q)
        -∗ wp frame (wpE (defs₀ (F := F)) 𝒱₀ c none) Set.univ (each l A Kt) Q)
  | [], k, m, Kt, h, _ => by
    obtain rfl : k = m := h
    iintro ⟨-, HX⟩ Hk
    iapply Hk $$ HX
  | d :: l, k, m, Kt, h, hm => by
    have hk : k < m := by
      clear hm hA
      obtain ⟨-, h2⟩ := h
      have : ∀ (l : List (Dev nD)) (k m : ℕ), InOrder k l m → k ≤ m := by
        intro l
        induction l with
        | nil => intro k m h; exact h.le
        | cons d l ih => intro k m h; have := ih _ _ h.2; omega
      have := this _ _ _ h2
      omega
    iintro ⟨#HP, HX⟩ Hk
    iapply (hA d k (each l A Kt) h.1 (lt_of_lt_of_le hk hm)) $$ [HX]
    · isplitr; · iexact HP
      iexact HX
    iintro HX
    iapply (each_wp A P X M Q hA l (k + 1) m Kt h.2 hm) $$ [HX]
    · isplitr; · iexact HP
      iexact HX
    iexact Hk

/-! ## The words the conditionals are on, and the device-dependent offsets -/

abbrev w2 : BitVec 32 := Scalar.remsi (Scalar.divsi (Dev.word c) 1#32) 8#32
abbrev cnd (d : Dev nD) : BitVec 1 := Scalar.cmpi .ne (Scalar.extui (Scalar.cmpi .ne (w2 c) (BitVec.ofNat 32 d.val)) : BitVec 32) 0#32
theorem cnd_iff (d : Dev nD) : cnd c d = 1#1 ↔ c ≠ d := by revert c d; decide

abbrev offR : Fin 3 → ℕ := ![(w2 c).toNat, 0, 0]
abbrev offC : Fin 2 → ℕ := ![(Scalar.muli (w2 c) 32#32).toNat, 0]
theorem w2_val : (w2 c).toNat = c.val := by revert c; decide
theorem offR_eq : offR c = ![c.val, 0, 0] := by unfold offR; rw [w2_val]
theorem offC_eq : offC c = ![32 * c.val, 0] := by
  have h : (Scalar.muli (w2 c) 32#32).toNat = 32 * c.val := by revert c; decide
  unfold offC; rw [h]
theorem inb_offR : ∀ a, offR c a + S1x32x256.size a ≤ S8x32x256.size a := by rw [offR_eq]; exact inb_rs c
theorem inb_offC : ∀ a, offC c a + S32x256.size a ≤ S256x256.size a := by rw [offC_eq]; exact inb_ctx c
theorem inb_offO : ∀ a, offC c a + S32x512.size a ≤ S256x512.size a := by rw [offC_eq]; exact inb_out c

/-! ## The loops -/

abbrev os (k : Fin 18) : DmaSem sig := ⟨6 + k.val, Nat.add_lt_add_left k.isLt 6⟩

abbrev sigA (d : Dev nD) {α : Type} (Kt : PROG (F := F) α) : PROG (F := F) α :=
  condK (p := cnd c d = 1#1) (fun _ => semSignalWord d barS 1#32) Kt
abbrev rsA (d : Dev nD) {α : Type} (Kt : PROG (F := F) α) : PROG (F := F) α :=
  condK (p := cnd c d = 1#1) (fun _ => rsSend d ![32 * d.val, 0] (inb_ctx d) (offR c) (inb_offR c) (os (k1 d)) (os kr0)) Kt
abbrev rv0A (d : Dev nD) {α : Type} (Kt : PROG (F := F) α) : PROG (F := F) α :=
  condK (p := cnd c d = 1#1) (fun _ => Prog.lift (.waitDma2 (os kr0) (ctxC 0) (rsC d) (View.wordExact_bits rfl) ((View.wordExact_bits rfl).reshape _ _))) Kt
abbrev outA (d : Dev nD) {α : Type} (Kt : PROG (F := F) α) : PROG (F := F) α :=
  condK (p := cnd c d = 1#1) (fun _ => outSend d (offC c) (inb_offO c) (os (k2 d)) (os kr1)) Kt
abbrev rv1A (d : Dev nD) {α : Type} (Kt : PROG (F := F) α) : PROG (F := F) α :=
  condK (p := cnd c d = 1#1) (fun _ => Prog.lift (.waitDma2 (os kr1) sbM (outC d) (Memref.isWhole_whole _).wordExact (View.wordExact_bits rfl))) Kt
abbrev finA (d : Dev nD) {α : Type} (Kt : PROG (F := F) α) : PROG (F := F) α :=
  condK (p := cnd c d = 1#1) (fun _ =>
    Prog.lift (.waitDma2 (os (k1 d)) ((rsM.slice (Rect.unit (s := S8x32x256) (offR c) S1x32x256.size (inb_offR c)) (fun _ => rfl)).squeeze S32x256 squeezes_S1x32x256_S32x256)
        (ctxC d) ((View.wordExact_bits rfl).reshape _ _) (View.wordExact_bits rfl))
      >>= fun _ => Prog.lift (.waitDma2 (os (k2 d)) (oM.slice (Rect.unit (s := S256x512) (offC c) S32x512.size (inb_offO c)) (fun _ => rfl))
        sbM (View.wordExact_bits rfl) (Memref.isWhole_whole _).wordExact)) Kt

/-! ## The parts -/

theorem if_form {p q : Prop} [Decidable p] [Decidable q] (hpq : p ↔ q) (A : p → PROG (F := F) PUnit) (A' : q → PROG (F := F) PUnit) {α : Type} (Kt Kt' : PROG (F := F) α)
    (hA : ∀ h h', A h = A' h') (hK : Kt = Kt') : (if h : p then A h >>= fun _ => Kt else Kt) = condK A' Kt' := by
  subst hK
  unfold condK
  by_cases h : p
  · rw [dif_pos h, dif_pos (hpq.mp h), hA h (hpq.mp h)]
  · rw [dif_neg h, dif_neg (fun h' => h (hpq.mpr h'))]

theorem if_form2 {p q : Prop} [Decidable p] [Decidable q] (hpq : p ↔ q) (A B : p → PROG (F := F) PUnit) (A' B' : q → PROG (F := F) PUnit) {α : Type} (Kt Kt' : PROG (F := F) α)
    (hA : ∀ h h', A h = A' h') (hB : ∀ h h', B h = B' h') (hK : Kt = Kt') :
    (if h : p then A h >>= fun _ => B h >>= fun _ => Kt else Kt) = condK (fun h => A' h >>= fun _ => B' h) Kt' := by
  subst hK
  unfold condK
  by_cases h : p
  · rw [dif_pos h, dif_pos (hpq.mp h), hA h (hpq.mp h), hB h (hpq.mp h)]
    exact (Prog.bind_assoc _ _ _).symm
  · rw [dif_neg h, dif_neg (fun h' => h (hpq.mpr h'))]

theorem bind_form {α β : Type} (a : PROG (F := F) α) (k k' : α → PROG (F := F) β) (h : ∀ x, k x = k' x) : (a >>= k) = (a >>= k') :=
  congrArg (fun k => a >>= k) (funext h)

theorem part1_form : k0_part1_skel (F := F) xM (Memref.isWhole_whole _) qM (Memref.isWhole_whole _) kM (Memref.isWhole_whole _) vM (Memref.isWhole_whole _) wM (Memref.isWhole_whole _) oM (Memref.isWhole_whole _) ctxM (Memref.isWhole_whole _) rsM (Memref.isWhole_whole _) sbM (Memref.isWhole_whole _) cc0_scratch3 cc0_scratch4
    = (Prog.lift .deviceId >>= fun d0 => each [0, 1, 2, 3, 4, 5, 6, 7] (sigA d0) (semWaitWord barS 7#32 >>= fun _ => pure ⟨d0, w2 d0⟩)) := by
  unfold k0_part1_skel
  refine bind_form _ _ _ fun _ => ?_
  simp only [each, List.foldr]
  iterate 8 refine if_form Iff.rfl _ _ _ _ (fun _ _ => rfl) ?_
  rfl

theorem part8_form : k0_part8_skel (F := F) xM (Memref.isWhole_whole _) qM (Memref.isWhole_whole _) kM (Memref.isWhole_whole _) vM (Memref.isWhole_whole _) wM (Memref.isWhole_whole _) oM (Memref.isWhole_whole _) ctxM (Memref.isWhole_whole _) rsM (Memref.isWhole_whole _) sbM (Memref.isWhole_whole _) cc0_scratch3 cc0_scratch4 (w2 c)
    = each [3, 4, 5, 6, 7] (rv0A c) (do
        let v245 : Vec F S1x32x256 .f32 ← Prog.lift (.load rsM (Rect.unit (s := S8x32x256) ![0, 0, 0] S1x32x256.size inb_S8x32x256_S1x32x256_0_0_0).toLoadRect (View.loadsAt_vmem h_S1x32x256))
        let v247 : Vec F S256x512 .f32 ← Prog.lift (.load wM (Rect.unit (s := S2048x512) ![0, 0] S256x512.size inb_S2048x512_S256x512_0_0).toLoadRect (View.loadsAt_vmem h_S256x512))
        let v250 : Vec F S1x32x256 .f32 ← Prog.lift (.load rsM (Rect.unit (s := S8x32x256) ![1, 0, 0] S1x32x256.size inb_S8x32x256_S1x32x256_1_0_0).toLoadRect (View.loadsAt_vmem h_S1x32x256))
        let v252 : Vec F S256x512 .f32 ← Prog.lift (.load wM (Rect.unit (s := S2048x512) ![256, 0] S256x512.size inb_S2048x512_S256x512_256_0).toLoadRect (View.loadsAt_vmem h_S256x512))
        let v256 : Vec F S1x32x256 .f32 ← Prog.lift (.load rsM (Rect.unit (s := S8x32x256) ![2, 0, 0] S1x32x256.size inb_S8x32x256_S1x32x256_2_0_0).toLoadRect (View.loadsAt_vmem h_S1x32x256))
        pure ⟨k0_pay19 v245 v247 v250 v252, k0_pay20 v256⟩) := by
  unfold k0_part8_skel
  simp only [each, List.foldr]
  iterate 5 refine if_form Iff.rfl _ _ _ _ (fun _ _ => rfl) ?_
  rfl

theorem part4_form (v50 v68 v86 v91 v94) : k0_part4_skel (F := F) xM (Memref.isWhole_whole _) qM (Memref.isWhole_whole _) kM (Memref.isWhole_whole _) vM (Memref.isWhole_whole _) wM (Memref.isWhole_whole _) oM (Memref.isWhole_whole _) ctxM (Memref.isWhole_whole _) rsM (Memref.isWhole_whole _) sbM (Memref.isWhole_whole _) cc0_scratch3 cc0_scratch4 c (w2 c) v50 v68 v86 v91 v94
    = (do
        let _ : Vec F S128x256 .f32 ← Prog.lift (.load ctxM (Rect.unit (s := S256x256) ![0, 0] S128x256.size inb_S256x256_S128x256_0_0).toLoadRect (View.loadsAt_vmem h_S128x256))
        Prog.lift (.store ctxM (Rect.unit (s := S256x256) ![0, 0] S128x256.size inb_S256x256_S128x256_0_0) (k0_pay10 v50 v68 v86 v91 v94) Finset.univ (View.stores_vmem_bits_univ h_S128x256 rfl) (.inl rfl))
        each [0, 1, 2, 3] (rsA c) (do
          let v121 : Vec F S1x128x512 .f32 ← Prog.lift (.load xM (Rect.unit (s := S2x128x512) ![1, 0, 0] S1x128x512.size inb_S2x128x512_S1x128x512_1_0_0).toLoadRect (View.loadsAt_vmem h_S1x128x512))
          let v123 : Vec F S512x256 .f32 ← Prog.lift (.load qM (Rect.unit (s := S512x256) ![0, 0] S512x256.size inb_S512x256_S512x256_0_0).toLoadRect (View.loadsAt_vmem h_S512x256))
          pure ⟨k0_pay11 v121 v123, k0_pay12 v121 v123⟩)) := by
  unfold k0_part4_skel
  iterate 2 refine bind_form _ _ _ fun _ => ?_
  simp only [each, List.foldr]
  iterate 4 refine if_form Iff.rfl _ _ _ _ (fun _ _ => rfl) ?_
  rfl

theorem part7_form (v198) : k0_part7_skel (F := F) xM (Memref.isWhole_whole _) qM (Memref.isWhole_whole _) kM (Memref.isWhole_whole _) vM (Memref.isWhole_whole _) wM (Memref.isWhole_whole _) oM (Memref.isWhole_whole _) ctxM (Memref.isWhole_whole _) rsM (Memref.isWhole_whole _) sbM (Memref.isWhole_whole _) cc0_scratch3 cc0_scratch4 c (w2 c) v198
    = (do
        let _ : Vec F S128x256 .f32 ← Prog.lift (.load ctxM (Rect.unit (s := S256x256) ![128, 0] S128x256.size inb_S256x256_S128x256_128_0).toLoadRect (View.loadsAt_vmem h_S128x256))
        Prog.lift (.store ctxM (Rect.unit (s := S256x256) ![128, 0] S128x256.size inb_S256x256_S128x256_128_0) (k0_pay17 v198) Finset.univ (View.stores_vmem_bits_univ h_S128x256 rfl) (.inl rfl))
        each [4, 5, 6, 7] (rsA c) (do
          let v216 : Vec F S32x256 .f32 ← Prog.lift (.load ctxM (Rect.unit (s := S256x256) (offC c) S32x256.size (inb_offC c)).toLoadRect (View.loadsAt_vmem h_S32x256))
          let _ : Vec F S1x32x256 .f32 ← Prog.lift (.load rsM (Rect.unit (s := S8x32x256) (offR c) S1x32x256.size (inb_offR c)).toLoadRect (View.loadsAt_vmem h_S1x32x256))
          Prog.lift (.store rsM (Rect.unit (s := S8x32x256) (offR c) S1x32x256.size (inb_offR c)) (k0_pay18 v216) Finset.univ (View.stores_vmem_bits_univ h_S1x32x256 rfl) (.inl rfl))
          each [0, 1, 2] (rv0A c) (pure ⟨⟩))) := by
  unfold k0_part7_skel
  iterate 2 refine bind_form _ _ _ fun _ => ?_
  simp only [each, List.foldr]
  iterate 4 refine if_form Iff.rfl _ _ _ _ (fun _ _ => rfl) ?_
  iterate 3 refine bind_form _ _ _ fun _ => ?_
  iterate 3 refine if_form Iff.rfl _ _ _ _ (fun _ _ => rfl) ?_
  rfl

theorem part10_form (v285 v287) : k0_part10_skel (F := F) xM (Memref.isWhole_whole _) qM (Memref.isWhole_whole _) kM (Memref.isWhole_whole _) vM (Memref.isWhole_whole _) wM (Memref.isWhole_whole _) oM (Memref.isWhole_whole _) ctxM (Memref.isWhole_whole _) rsM (Memref.isWhole_whole _) sbM (Memref.isWhole_whole _) cc0_scratch3 cc0_scratch4 c (w2 c) v285 v287
    = (do
        let v288 : Vec F S256x512 .f32 ← Prog.lift (.load wM (Rect.unit (s := S2048x512) ![1792, 0] S256x512.size inb_S2048x512_S256x512_1792_0).toLoadRect (View.loadsAt_vmem h_S256x512))
        let _ : Vec F S32x512 .f32 ← Prog.lift (.load sbM (Rect.unit (s := S32x512) ![0, 0] S32x512.size inb_S32x512_S32x512_0_0).toLoadRect (View.loadsAt_vmem h_S32x512))
        Prog.lift (.store sbM (Rect.unit (s := S32x512) ![0, 0] S32x512.size inb_S32x512_S32x512_0_0) (k0_pay24 v285 v287 v288) Finset.univ (View.stores_vmem_bits_univ h_S32x512 rfl) (.inl rfl))
        let _ : Vec F S32x512 .f32 ← Prog.lift (.load oM (Rect.unit (s := S256x512) (offC c) S32x512.size (inb_offO c)).toLoadRect (View.loadsAt_vmem h_S32x512))
        Prog.lift (.store oM (Rect.unit (s := S256x512) (offC c) S32x512.size (inb_offO c)) (k0_pay23 v285 v287 v288) Finset.univ (View.stores_vmem_bits_univ h_S32x512 rfl) (.inl rfl))
        each [0, 1, 2, 3, 4, 5, 6] (outA c) (pure 7#32)) := by
  unfold k0_part10_skel
  iterate 5 refine bind_form _ _ _ fun _ => ?_
  simp only [each, List.foldr]
  iterate 7 refine if_form Iff.rfl _ _ _ _ (fun _ _ => rfl) ?_
  rfl

theorem part11_form : k0_part11_skel (F := F) xM (Memref.isWhole_whole _) qM (Memref.isWhole_whole _) kM (Memref.isWhole_whole _) vM (Memref.isWhole_whole _) wM (Memref.isWhole_whole _) oM (Memref.isWhole_whole _) ctxM (Memref.isWhole_whole _) rsM (Memref.isWhole_whole _) sbM (Memref.isWhole_whole _) cc0_scratch3 cc0_scratch4 c (w2 c) 7#32
    = each [7] (outA c) (each [0, 1, 2, 3, 4, 5, 6, 7] (rv1A c) (each [0] (finA c) (pure 1#32))) := by
  unfold k0_part11_skel
  simp only [each, List.foldr]
  iterate 9 refine if_form Iff.rfl _ _ _ _ (fun _ _ => rfl) ?_
  refine if_form2 Iff.rfl _ _ _ _ _ _ (fun _ _ => rfl) (fun _ _ => rfl) ?_
  rfl

theorem body_form : cc0_body_skel (F := F) xM (Memref.isWhole_whole _) qM (Memref.isWhole_whole _) kM (Memref.isWhole_whole _) vM (Memref.isWhole_whole _) wM (Memref.isWhole_whole _) oM (Memref.isWhole_whole _) ctxM (Memref.isWhole_whole _) rsM (Memref.isWhole_whole _) sbM (Memref.isWhole_whole _) cc0_scratch3 cc0_scratch4
    = (do
        let a ← k0_part1 xM (Memref.isWhole_whole _) qM (Memref.isWhole_whole _) kM (Memref.isWhole_whole _) vM (Memref.isWhole_whole _) wM (Memref.isWhole_whole _) oM (Memref.isWhole_whole _) ctxM (Memref.isWhole_whole _) rsM (Memref.isWhole_whole _) sbM (Memref.isWhole_whole _) cc0_scratch3 cc0_scratch4
        let b ← k0_part2 xM (Memref.isWhole_whole _) qM (Memref.isWhole_whole _) kM (Memref.isWhole_whole _) vM (Memref.isWhole_whole _) wM (Memref.isWhole_whole _) oM (Memref.isWhole_whole _) ctxM (Memref.isWhole_whole _) rsM (Memref.isWhole_whole _) sbM (Memref.isWhole_whole _) cc0_scratch3 cc0_scratch4
        let e ← k0_part3 xM (Memref.isWhole_whole _) qM (Memref.isWhole_whole _) kM (Memref.isWhole_whole _) vM (Memref.isWhole_whole _) wM (Memref.isWhole_whole _) oM (Memref.isWhole_whole _) ctxM (Memref.isWhole_whole _) rsM (Memref.isWhole_whole _) sbM (Memref.isWhole_whole _) cc0_scratch3 cc0_scratch4 b.1 b.2.2.1 b.2.2.2.1 b.2.2.2.2
        let f ← k0_part4 xM (Memref.isWhole_whole _) qM (Memref.isWhole_whole _) kM (Memref.isWhole_whole _) vM (Memref.isWhole_whole _) wM (Memref.isWhole_whole _) oM (Memref.isWhole_whole _) ctxM (Memref.isWhole_whole _) rsM (Memref.isWhole_whole _) sbM (Memref.isWhole_whole _) cc0_scratch3 cc0_scratch4 a.1 a.2 b.2.1 e.1 e.2.1 e.2.2.1 e.2.2.2
        let g ← k0_part5 xM (Memref.isWhole_whole _) qM (Memref.isWhole_whole _) kM (Memref.isWhole_whole _) vM (Memref.isWhole_whole _) wM (Memref.isWhole_whole _) oM (Memref.isWhole_whole _) ctxM (Memref.isWhole_whole _) rsM (Memref.isWhole_whole _) sbM (Memref.isWhole_whole _) cc0_scratch3 cc0_scratch4 f.1 f.2
        let h ← k0_part6 xM (Memref.isWhole_whole _) qM (Memref.isWhole_whole _) kM (Memref.isWhole_whole _) vM (Memref.isWhole_whole _) wM (Memref.isWhole_whole _) oM (Memref.isWhole_whole _) ctxM (Memref.isWhole_whole _) rsM (Memref.isWhole_whole _) sbM (Memref.isWhole_whole _) cc0_scratch3 cc0_scratch4 f.1 g.1 g.2.1 g.2.2
        k0_part7 xM (Memref.isWhole_whole _) qM (Memref.isWhole_whole _) kM (Memref.isWhole_whole _) vM (Memref.isWhole_whole _) wM (Memref.isWhole_whole _) oM (Memref.isWhole_whole _) ctxM (Memref.isWhole_whole _) rsM (Memref.isWhole_whole _) sbM (Memref.isWhole_whole _) cc0_scratch3 cc0_scratch4 a.1 a.2 h
        let i ← k0_part8 xM (Memref.isWhole_whole _) qM (Memref.isWhole_whole _) kM (Memref.isWhole_whole _) vM (Memref.isWhole_whole _) wM (Memref.isWhole_whole _) oM (Memref.isWhole_whole _) ctxM (Memref.isWhole_whole _) rsM (Memref.isWhole_whole _) sbM (Memref.isWhole_whole _) cc0_scratch3 cc0_scratch4 a.2
        let j ← k0_part9 xM (Memref.isWhole_whole _) qM (Memref.isWhole_whole _) kM (Memref.isWhole_whole _) vM (Memref.isWhole_whole _) wM (Memref.isWhole_whole _) oM (Memref.isWhole_whole _) ctxM (Memref.isWhole_whole _) rsM (Memref.isWhole_whole _) sbM (Memref.isWhole_whole _) cc0_scratch3 cc0_scratch4 i.1 i.2
        let k ← k0_part10 xM (Memref.isWhole_whole _) qM (Memref.isWhole_whole _) kM (Memref.isWhole_whole _) vM (Memref.isWhole_whole _) wM (Memref.isWhole_whole _) oM (Memref.isWhole_whole _) ctxM (Memref.isWhole_whole _) rsM (Memref.isWhole_whole _) sbM (Memref.isWhole_whole _) cc0_scratch3 cc0_scratch4 a.1 a.2 j.1 j.2
        let _ ← k0_part11 xM (Memref.isWhole_whole _) qM (Memref.isWhole_whole _) kM (Memref.isWhole_whole _) vM (Memref.isWhole_whole _) wM (Memref.isWhole_whole _) oM (Memref.isWhole_whole _) ctxM (Memref.isWhole_whole _) rsM (Memref.isWhole_whole _) sbM (Memref.isWhole_whole _) cc0_scratch3 cc0_scratch4 a.1 a.2 k
        each [1, 2, 3, 4, 5, 6, 7] (finA a.1) (pure ⟨⟩)) := by
  unfold cc0_body_skel
  iterate 11 refine bind_form _ _ _ fun _ => ?_
  simp only [each, List.foldr]
  iterate 7 refine if_form2 Iff.rfl _ _ _ _ _ _ (fun _ _ => rfl) (fun _ _ => rfl) ?_
  rfl

end Cert.KernelIdeal.Talk
-- ==== Proof.Loads.lean ====
/-
  The parts of the body that only load and compute: each leaves what it holds as it was and returns the values computed
  from it.
-/
module

public import proofs.«01_k».proof.Proof.Forms

@[expose] public section

set_option maxRecDepth 16384

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (I : Ins F) (c : Dev nD)

/-! ## The parts, at the kernel's own buffers -/

abbrev P1 := k0_part1 (F := F) xM (Memref.isWhole_whole _) qM (Memref.isWhole_whole _) kM (Memref.isWhole_whole _) vM (Memref.isWhole_whole _) wM (Memref.isWhole_whole _)
  oM (Memref.isWhole_whole _) ctxM (Memref.isWhole_whole _) rsM (Memref.isWhole_whole _) sbM (Memref.isWhole_whole _) cc0_scratch3 cc0_scratch4
abbrev P2 := k0_part2 (F := F) xM (Memref.isWhole_whole _) qM (Memref.isWhole_whole _) kM (Memref.isWhole_whole _) vM (Memref.isWhole_whole _) wM (Memref.isWhole_whole _)
  oM (Memref.isWhole_whole _) ctxM (Memref.isWhole_whole _) rsM (Memref.isWhole_whole _) sbM (Memref.isWhole_whole _) cc0_scratch3 cc0_scratch4
abbrev P3 := k0_part3 (F := F) xM (Memref.isWhole_whole _) qM (Memref.isWhole_whole _) kM (Memref.isWhole_whole _) vM (Memref.isWhole_whole _) wM (Memref.isWhole_whole _)
  oM (Memref.isWhole_whole _) ctxM (Memref.isWhole_whole _) rsM (Memref.isWhole_whole _) sbM (Memref.isWhole_whole _) cc0_scratch3 cc0_scratch4
abbrev P4 := k0_part4 (F := F) xM (Memref.isWhole_whole _) qM (Memref.isWhole_whole _) kM (Memref.isWhole_whole _) vM (Memref.isWhole_whole _) wM (Memref.isWhole_whole _)
  oM (Memref.isWhole_whole _) ctxM (Memref.isWhole_whole _) rsM (Memref.isWhole_whole _) sbM (Memref.isWhole_whole _) cc0_scratch3 cc0_scratch4
abbrev P5 := k0_part5 (F := F) xM (Memref.isWhole_whole _) qM (Memref.isWhole_whole _) kM (Memref.isWhole_whole _) vM (Memref.isWhole_whole _) wM (Memref.isWhole_whole _)
  oM (Memref.isWhole_whole _) ctxM (Memref.isWhole_whole _) rsM (Memref.isWhole_whole _) sbM (Memref.isWhole_whole _) cc0_scratch3 cc0_scratch4
abbrev P6 := k0_part6 (F := F) xM (Memref.isWhole_whole _) qM (Memref.isWhole_whole _) kM (Memref.isWhole_whole _) vM (Memref.isWhole_whole _) wM (Memref.isWhole_whole _)
  oM (Memref.isWhole_whole _) ctxM (Memref.isWhole_whole _) rsM (Memref.isWhole_whole _) sbM (Memref.isWhole_whole _) cc0_scratch3 cc0_scratch4
abbrev P7 := k0_part7 (F := F) xM (Memref.isWhole_whole _) qM (Memref.isWhole_whole _) kM (Memref.isWhole_whole _) vM (Memref.isWhole_whole _) wM (Memref.isWhole_whole _)
  oM (Memref.isWhole_whole _) ctxM (Memref.isWhole_whole _) rsM (Memref.isWhole_whole _) sbM (Memref.isWhole_whole _) cc0_scratch3 cc0_scratch4
abbrev P8 := k0_part8 (F := F) xM (Memref.isWhole_whole _) qM (Memref.isWhole_whole _) kM (Memref.isWhole_whole _) vM (Memref.isWhole_whole _) wM (Memref.isWhole_whole _)
  oM (Memref.isWhole_whole _) ctxM (Memref.isWhole_whole _) rsM (Memref.isWhole_whole _) sbM (Memref.isWhole_whole _) cc0_scratch3 cc0_scratch4
abbrev P9 := k0_part9 (F := F) xM (Memref.isWhole_whole _) qM (Memref.isWhole_whole _) kM (Memref.isWhole_whole _) vM (Memref.isWhole_whole _) wM (Memref.isWhole_whole _)
  oM (Memref.isWhole_whole _) ctxM (Memref.isWhole_whole _) rsM (Memref.isWhole_whole _) sbM (Memref.isWhole_whole _) cc0_scratch3 cc0_scratch4
abbrev P10 := k0_part10 (F := F) xM (Memref.isWhole_whole _) qM (Memref.isWhole_whole _) kM (Memref.isWhole_whole _) vM (Memref.isWhole_whole _) wM (Memref.isWhole_whole _)
  oM (Memref.isWhole_whole _) ctxM (Memref.isWhole_whole _) rsM (Memref.isWhole_whole _) sbM (Memref.isWhole_whole _) cc0_scratch3 cc0_scratch4
abbrev P11 := k0_part11 (F := F) xM (Memref.isWhole_whole _) qM (Memref.isWhole_whole _) kM (Memref.isWhole_whole _) vM (Memref.isWhole_whole _) wM (Memref.isWhole_whole _)
  oM (Memref.isWhole_whole _) ctxM (Memref.isWhole_whole _) rsM (Memref.isWhole_whole _) sbM (Memref.isWhole_whole _) cc0_scratch3 cc0_scratch4

/-! ## What the loads read from -/

abbrev xPt : sProp 𝕄 := ((c : Thread nD τ).loc cc0_stg0_0) ↦{fullShare} I.x c
abbrev qPt : sProp 𝕄 := ((c : Thread nD τ).loc cc0_stg1_0) ↦{fullShare} I.q c
abbrev kPt : sProp 𝕄 := ((c : Thread nD τ).loc cc0_stg2_0) ↦{fullShare} I.k c
abbrev vPt : sProp 𝕄 := ((c : Thread nD τ).loc cc0_stg3_0) ↦{fullShare} I.v c
abbrev wPt : sProp 𝕄 := ((c : Thread nD τ).loc cc0_stg4_0) ↦{fullShare} I.w c
abbrev gPt : sProp 𝕄 := ((c : Thread nD τ).loc cc0_scratch1) ↦{fullShare} rsV I c

abbrev WP {α : Type} (p : PROG (F := F) α) (Q : α → sProp 𝕄) : sProp 𝕄 := wp frame (wpE (defs₀ (F := F)) 𝒱₀ c none) Set.univ p Q

theorem done {α : Type} (a : α) (Q : α → sProp 𝕄) : Q a ⊢ WP c (.ret a) Q := le_wp_ret _ _ _ _ _

/-- A load of a buffer held whole. -/
theorem ld {s : Shape} {e : EltTy} (m : Memref sig .tc .vmem s e) (r : LoadRect s) (hl : m.view.LoadsAt r) {α : Type} (k : (r.shape.Idx → Elt F e) → PROG (F := F) α)
    (Q : α → sProp 𝕄) (f : Buf (Elt F) (m.view.loc (c : Thread nD τ))) :
    (m.view.loc (c : Thread nD τ) ↦{fullShare} f : sProp 𝕄)
      ⊢ iprop(((m.view.loc (c : Thread nD τ) ↦{fullShare} f) -∗ WP c (k (m.view.readAt (Elt F) r f)) Q) -∗ WP c (.op (.load m r hl) k) Q) :=
  wp_load 𝒱₀ (c : Thread nD τ) none Set.univ (Finset.subset_univ _)

theorem part2_wp (Q) :
    iprop(xPt I c ∗ qPt I c ∗ kPt I c ∗ vPt I c ∗ ((xPt I c ∗ qPt I c ∗ kPt I c ∗ vPt I c) -∗ Q ⟨k0_pay1 (ldX I c ![0, 0, 0] inb_S2x128x512_S1x128x512_0_0_0) (ldQ I c), k0_pay2 (ldX I c ![0, 0, 0] inb_S2x128x512_S1x128x512_0_0_0) (ldQ I c) (ldK I c ![0, 0, 0, 0] inb_S2x128x4x64_S1x128x1x64_0_0_0_0) (ldV I c ![0, 0, 0, 0] inb_S2x128x4x64_S1x128x1x64_0_0_0_0),
      k0_pay3 (ldV I c ![0, 0, 1, 0] inb_S2x128x4x64_S1x128x1x64_0_0_1_0), k0_pay4 (ldX I c ![0, 0, 0] inb_S2x128x512_S1x128x512_0_0_0) (ldQ I c) (ldK I c ![0, 0, 1, 0] inb_S2x128x4x64_S1x128x1x64_0_0_1_0), k0_pay5 (ldX I c ![0, 0, 0] inb_S2x128x512_S1x128x512_0_0_0) (ldQ I c) (ldK I c ![0, 0, 1, 0] inb_S2x128x4x64_S1x128x1x64_0_0_1_0)⟩))
      ⊢ WP c (P2 ) Q := by
  unfold P2
  rw [k0_part2_eq_skeleton]
  unfold k0_part2_skel
  simp only [Prog.lift, Prog.bind_op, Prog.bind_ret]
  iintro ⟨Hx, Hq, Hk, Hv, Hret⟩
  iapply (ld c xM _ _ _ _ _) $$ Hx; iintro Hx
  iapply (ld c qM _ _ _ _ _) $$ Hq; iintro Hq
  iapply (ld c kM _ _ _ _ _) $$ Hk; iintro Hk
  iapply (ld c vM _ _ _ _ _) $$ Hv; iintro Hv
  iapply (ld c kM _ _ _ _ _) $$ Hk; iintro Hk
  iapply (ld c vM _ _ _ _ _) $$ Hv; iintro Hv
  rw [Prog.pure_eq_ret]
  iapply (done _ _ _)
  iapply Hret
  isplitl [Hx]; · iexact Hx
  isplitl [Hq]; · iexact Hq
  isplitl [Hk]; · iexact Hk
  iexact Hv

theorem part3_wp (v32 v55 v58 v59) (Q) :
    iprop(kPt I c ∗ vPt I c ∗ ((kPt I c ∗ vPt I c) -∗ Q ⟨k0_pay6 v55 v58 v59, k0_pay7 v32 (ldK I c ![0, 0, 2, 0] inb_S2x128x4x64_S1x128x1x64_0_0_2_0) (ldV I c ![0, 0, 2, 0] inb_S2x128x4x64_S1x128x1x64_0_0_2_0), k0_pay8 (ldV I c ![0, 0, 3, 0] inb_S2x128x4x64_S1x128x1x64_0_0_3_0), k0_pay9 v32 (ldK I c ![0, 0, 3, 0] inb_S2x128x4x64_S1x128x1x64_0_0_3_0)⟩))
      ⊢ WP c (P3 v32 v55 v58 v59) Q := by
  unfold P3
  rw [k0_part3_eq_skeleton]
  unfold k0_part3_skel
  simp only [Prog.lift, Prog.bind_op, Prog.bind_ret]
  iintro ⟨Hk, Hv, Hret⟩
  iapply (ld c kM _ _ _ _ _) $$ Hk; iintro Hk
  iapply (ld c vM _ _ _ _ _) $$ Hv; iintro Hv
  iapply (ld c kM _ _ _ _ _) $$ Hk; iintro Hk
  iapply (ld c vM _ _ _ _ _) $$ Hv; iintro Hv
  rw [Prog.pure_eq_ret]
  iapply (done _ _ _)
  iapply Hret
  isplitl [Hk]; · iexact Hk
  iexact Hv

theorem part5_wp (v125 v126) (Q) :
    iprop(kPt I c ∗ vPt I c ∗ ((kPt I c ∗ vPt I c) -∗ Q ⟨k0_pay13 v126 (ldK I c ![1, 0, 0, 0] inb_S2x128x4x64_S1x128x1x64_1_0_0_0) (ldV I c ![1, 0, 0, 0] inb_S2x128x4x64_S1x128x1x64_1_0_0_0), k0_pay14 v125 (ldK I c ![1, 0, 1, 0] inb_S2x128x4x64_S1x128x1x64_1_0_1_0) (ldV I c ![1, 0, 1, 0] inb_S2x128x4x64_S1x128x1x64_1_0_1_0), k0_pay15 v125⟩))
      ⊢ WP c (P5 v125 v126) Q := by
  unfold P5
  rw [k0_part5_eq_skeleton]
  unfold k0_part5_skel
  simp only [Prog.lift, Prog.bind_op, Prog.bind_ret]
  iintro ⟨Hk, Hv, Hret⟩
  iapply (ld c kM _ _ _ _ _) $$ Hk; iintro Hk
  iapply (ld c vM _ _ _ _ _) $$ Hv; iintro Hv
  iapply (ld c kM _ _ _ _ _) $$ Hk; iintro Hk
  iapply (ld c vM _ _ _ _ _) $$ Hv; iintro Hv
  rw [Prog.pure_eq_ret]
  iapply (done _ _ _)
  iapply Hret
  isplitl [Hk]; · iexact Hk
  iexact Hv

theorem part6_wp (v125 v143 v161 v162) (Q) :
    iprop(kPt I c ∗ vPt I c ∗ ((kPt I c ∗ vPt I c) -∗ Q (k0_pay16 v125 v143 v161 v162 (ldK I c ![1, 0, 2, 0] inb_S2x128x4x64_S1x128x1x64_1_0_2_0) (ldV I c ![1, 0, 2, 0] inb_S2x128x4x64_S1x128x1x64_1_0_2_0) (ldK I c ![1, 0, 3, 0] inb_S2x128x4x64_S1x128x1x64_1_0_3_0) (ldV I c ![1, 0, 3, 0] inb_S2x128x4x64_S1x128x1x64_1_0_3_0))))
      ⊢ WP c (P6 v125 v143 v161 v162) Q := by
  unfold P6
  rw [k0_part6_eq_skeleton]
  unfold k0_part6_skel
  simp only [Prog.lift, Prog.bind_op, Prog.bind_ret]
  iintro ⟨Hk, Hv, Hret⟩
  iapply (ld c kM _ _ _ _ _) $$ Hk; iintro Hk
  iapply (ld c vM _ _ _ _ _) $$ Hv; iintro Hv
  iapply (ld c kM _ _ _ _ _) $$ Hk; iintro Hk
  iapply (ld c vM _ _ _ _ _) $$ Hv; iintro Hv
  rw [Prog.pure_eq_ret]
  iapply (done _ _ _)
  iapply Hret
  isplitl [Hk]; · iexact Hk
  iexact Hv

theorem part9_wp (v255 v257) (Q) :
    iprop(wPt I c ∗ gPt I c ∗ ((wPt I c ∗ gPt I c) -∗ Q ⟨k0_pay21 v255 v257 (ldW I c ![512, 0] inb_S2048x512_S256x512_512_0) (ldR I c ![3, 0, 0] inb_S8x32x256_S1x32x256_3_0_0) (ldW I c ![768, 0] inb_S2048x512_S256x512_768_0) (ldR I c ![4, 0, 0] inb_S8x32x256_S1x32x256_4_0_0) (ldW I c ![1024, 0] inb_S2048x512_S256x512_1024_0) (ldR I c ![5, 0, 0] inb_S8x32x256_S1x32x256_5_0_0) (ldW I c ![1280, 0] inb_S2048x512_S256x512_1280_0) (ldR I c ![6, 0, 0] inb_S8x32x256_S1x32x256_6_0_0) (ldW I c ![1536, 0] inb_S2048x512_S256x512_1536_0), k0_pay22 (ldR I c ![7, 0, 0] inb_S8x32x256_S1x32x256_7_0_0)⟩))
      ⊢ WP c (P9 v255 v257) Q := by
  unfold P9
  rw [k0_part9_eq_skeleton]
  unfold k0_part9_skel
  simp only [Prog.lift, Prog.bind_op, Prog.bind_ret]
  iintro ⟨Hw, Hg, Hret⟩
  iapply (ld c wM _ _ _ _ _) $$ Hw; iintro Hw
  iapply (ld c rsM _ _ _ _ _) $$ Hg; iintro Hg
  iapply (ld c wM _ _ _ _ _) $$ Hw; iintro Hw
  iapply (ld c rsM _ _ _ _ _) $$ Hg; iintro Hg
  iapply (ld c wM _ _ _ _ _) $$ Hw; iintro Hw
  iapply (ld c rsM _ _ _ _ _) $$ Hg; iintro Hg
  iapply (ld c wM _ _ _ _ _) $$ Hw; iintro Hw
  iapply (ld c rsM _ _ _ _ _) $$ Hg; iintro Hg
  iapply (ld c wM _ _ _ _ _) $$ Hw; iintro Hw
  iapply (ld c rsM _ _ _ _ _) $$ Hg; iintro Hg
  rw [Prog.pure_eq_ret]
  iapply (done _ _ _)
  iapply Hret
  isplitl [Hw]; · iexact Hw
  iexact Hg

end Cert.KernelIdeal.Talk
-- ==== Proof.Split.lean ====
/-
  The buffers split into the regions that move, and joined again; and what the body's own stores leave in them.
-/
module

public import proofs.«01_k».proof.Proof.Loads

@[expose] public section

set_option maxRecDepth 16384

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.ValueKit

variable {F : FTy → Type} [FloatOps F]

local notation "𝕄" => MT nD τ sig Unit (Elt F) ℕ UU ℕ

variable (I : Ins F) (c : Dev nD)

/-! ## Splitting -/

theorem bs_erase {X : Type} [DecidableEq X] {S : Finset X} {x : X} (h : x ∈ S) (Φ : X → sProp 𝕄) :
    bigSep S Φ = iprop(Φ x ∗ bigSep (S.erase x) Φ) := bigSep_erase h

theorem ctxSet_disj (d e : Dev nD) (h : d ≠ e) : Disjoint (ctxSet d) (ctxSet e) := by
  rw [Finset.disjoint_left]; intro i hd he
  exact h (Fin.ext ((mem_ctxSet.mp hd).symm.trans (mem_ctxSet.mp he)))
theorem rsSet_disj (d e : Dev nD) (h : d ≠ e) : Disjoint (rsSet d) (rsSet e) := by
  rw [Finset.disjoint_left]; intro i hd he
  exact h (Fin.ext ((mem_rsSet.mp hd).symm.trans (mem_rsSet.mp he)))
theorem outSet_disj (d e : Dev nD) (h : d ≠ e) : Disjoint (outSet d) (outSet e) := by
  rw [Finset.disjoint_left]; intro i hd he
  exact h (Fin.ext ((mem_outSet.mp hd).symm.trans (mem_outSet.mp he)))

theorem ctx_cover : (Finset.univ : Finset (Dev nD)).biUnion ctxSet = Finset.univ := by
  ext i; simp only [Finset.mem_biUnion, Finset.mem_univ, true_and, iff_true]
  have h : (i 0).val < 256 := (i 0).isLt
  exact ⟨⟨(i 0).val / 32, by show (i 0).val / 32 < 8; omega⟩, mem_ctxSet.mpr rfl⟩
theorem rs_cover : (Finset.univ : Finset (Dev nD)).biUnion rsSet = Finset.univ := by
  ext i; simp only [Finset.mem_biUnion, Finset.mem_univ, true_and, iff_true]
  exact ⟨⟨(i 0).val, (i 0).isLt⟩, mem_rsSet.mpr rfl⟩
theorem out_cover : (Finset.univ : Finset (Dev nD)).biUnion outSet = Finset.univ := by
  ext i; simp only [Finset.mem_biUnion, Finset.mem_univ, true_and, iff_true]
  have h : (i 0).val < 256 := (i 0).isLt
  exact ⟨⟨(i 0).val / 32, by show (i 0).val / 32 < 8; omega⟩, mem_outSet.mpr rfl⟩

abbrev ctxWh (f : (cc0_scratch0 : Ref sig .tc).ty.Contents (Elt F)) : sProp 𝕄 := ((c : Thread nD τ).loc cc0_scratch0) ↦{fullShare} f
abbrev rsWh (f : (cc0_scratch1 : Ref sig .tc).ty.Contents (Elt F)) : sProp 𝕄 := ((c : Thread nD τ).loc cc0_scratch1) ↦{fullShare} f
abbrev outWh (f : (cc0_stg5_0 : Ref sig .tc).ty.Contents (Elt F)) : sProp 𝕄 := ((c : Thread nD τ).loc cc0_stg5_0) ↦{fullShare} f
abbrev sbWh (f : (cc0_scratch2 : Ref sig .tc).ty.Contents (Elt F)) : sProp 𝕄 := ((c : Thread nD τ).loc cc0_scratch2) ↦{fullShare} f

theorem ctx_all (f) : (ctxWh c f : sProp 𝕄) = bigSep Finset.univ (fun d => ctxPt c d f) := by
  have h := pointsTo_biUnion (Ix := Unit) (Name := ℕ) (U := UU) (Lvl := ℕ) (ℓ := (c : Thread nD τ).loc cc0_scratch0) (q := fullShare) (f := f) Finset.univ ctxSet (fun d _ e _ hde => ctxSet_disj d e hde)
  rw [ctx_cover] at h; exact h
theorem rs_split (f) : (rsWh c f : sProp 𝕄) = iprop(rsPt c c f ∗ bigSep (Finset.univ.erase c) (fun d => rsPt c d f)) := by
  have h := pointsTo_biUnion (Ix := Unit) (Name := ℕ) (U := UU) (Lvl := ℕ) (ℓ := (c : Thread nD τ).loc cc0_scratch1) (q := fullShare) (f := f) Finset.univ rsSet (fun d _ e _ hde => rsSet_disj d e hde)
  rw [rs_cover] at h; exact h.trans (bs_erase (Finset.mem_univ c) _)
theorem out_split (f) : (outWh c f : sProp 𝕄) = iprop(outPt c c f ∗ bigSep (Finset.univ.erase c) (fun d => outPt c d f)) := by
  have h := pointsTo_biUnion (Ix := Unit) (Name := ℕ) (U := UU) (Lvl := ℕ) (ℓ := (c : Thread nD τ).loc cc0_stg5_0) (q := fullShare) (f := f) Finset.univ outSet (fun d _ e _ hde => outSet_disj d e hde)
  rw [out_cover] at h; exact h.trans (bs_erase (Finset.mem_univ c) _)

/-! The chunks of batch 0 (the first four) and of batch 1; among them, that of the device itself. -/

def LO : Finset (Dev nD) := Finset.univ.filter fun d => d.val < 4
def HI : Finset (Dev nD) := Finset.univ.filter fun d => 4 ≤ d.val
def ownLO : Finset (Dev nD) := Finset.univ.filter fun d => d = c ∧ d.val < 4
def ownHI : Finset (Dev nD) := Finset.univ.filter fun d => d = c ∧ 4 ≤ d.val

theorem ctx_halves (Φ : Dev nD → sProp 𝕄) : bigSep Finset.univ Φ = iprop(bigSep LO Φ ∗ bigSep HI Φ) := by
  rw [← bs_union (by unfold LO HI; rw [Finset.disjoint_filter]; intro d _ h; omega)]
  refine congrArg (fun S => bigSep S Φ) (Finset.ext fun d => ?_)
  simp only [LO, HI, Finset.mem_union, Finset.mem_filter, Finset.mem_univ, true_and, true_iff]; omega
theorem lo_own (Φ : Dev nD → sProp 𝕄) : bigSep LO Φ = iprop(bigSep (Rem 0 4 c) Φ ∗ bigSep (ownLO c) Φ) := by
  rw [← bs_union (by rw [Finset.disjoint_left]; intro d h h'; rw [mem_Rem] at h; exact h.2.2 (Finset.mem_filter.mp h').2.1)]
  congr 1; ext d; simp only [LO, ownLO, Finset.mem_union, mem_Rem, Finset.mem_filter, Finset.mem_univ, true_and]
  by_cases h : d = c <;> simp [h]
theorem hi_own (Φ : Dev nD → sProp 𝕄) : bigSep HI Φ = iprop(bigSep (Rem 4 8 c) Φ ∗ bigSep (ownHI c) Φ) := by
  rw [← bs_union (by rw [Finset.disjoint_left]; intro d h h'; rw [mem_Rem] at h; exact h.2.2 (Finset.mem_filter.mp h').2.1)]
  congr 1; ext d; simp only [HI, ownHI, Finset.mem_union, mem_Rem, Finset.mem_filter, Finset.mem_univ, true_and]
  have hd : d.val < 8 := d.isLt
  by_cases h : d = c <;> simp [h, hd]
theorem own_both (Φ : Dev nD → sProp 𝕄) : iprop(bigSep (ownLO c) Φ ∗ bigSep (ownHI c) Φ) = Φ c := by
  rw [← bs_union (by unfold ownLO ownHI; rw [Finset.disjoint_filter]; intro d _ h; omega), ← bigSep_singleton (i := c) (Φ := Φ)]
  congr 1; ext d; simp only [ownLO, ownHI, Finset.mem_union, Finset.mem_filter, Finset.mem_univ, true_and, Finset.mem_singleton]
  constructor
  · rintro (h | h) <;> exact h.1
  · rintro rfl; by_cases h : d.val < 4
    · exact .inl ⟨rfl, h⟩
    · exact .inr ⟨rfl, by omega⟩

/-! ## What the stores leave -/

abbrev loRect : Rect S256x256 := Rect.unit (s := S256x256) ![0, 0] S128x256.size inb_S256x256_S128x256_0_0
abbrev hiRect : Rect S256x256 := Rect.unit (s := S256x256) ![128, 0] S128x256.size inb_S256x256_S128x256_128_0

theorem lo_stored (f : (cc0_scratch0 : Ref sig .tc).ty.Contents (Elt F)) (d : Dev nD) (hd : d ∈ LO) (i : (cc0_scratch0 : Ref sig .tc).ty.shape.Idx) (hi : i ∈ ctxSet d) :
    (ctxM.access loRect).write (Elt F) f (half0 I c) Finset.univ i = ctxV I c i := by
  have h0 := mem_ctxSet.mp hi
  have hd4 : d.val < 4 := (Finset.mem_filter.mp hd).2
  have hlt : (i 0).val < 128 := by omega
  have h1 : (i 1).val < 256 := (i 1).isLt
  have he : (ctxM.access loRect).emb (ix2 ⟨(i 0).val, hlt⟩ ⟨(i 1).val, h1⟩) = i := by
    funext a; apply Fin.ext
    refine (view_emb_slice_whole_unit_val cc0_scratch0 _ _ _ _ a).trans ?_
    fin_cases a
    · exact Nat.zero_add _
    · exact Nat.zero_add _
  conv_lhs => rw [← he]
  rw [View.write_emb_of_mem _ _ (Finset.mem_univ _)]
  unfold ctxV
  rw [dif_pos hlt]
  rfl
theorem hi_stored (f : (cc0_scratch0 : Ref sig .tc).ty.Contents (Elt F)) (d : Dev nD) (hd : d ∈ HI) (i : (cc0_scratch0 : Ref sig .tc).ty.shape.Idx) (hi : i ∈ ctxSet d) :
    (ctxM.access hiRect).write (Elt F) f (half1 I c) Finset.univ i = ctxV I c i := by
  have h0 := mem_ctxSet.mp hi
  have hd4 : 4 ≤ d.val := (Finset.mem_filter.mp hd).2
  have h256 : (i 0).val < 256 := (i 0).isLt
  have hge : 128 ≤ (i 0).val := by omega
  have h1 : (i 1).val < 256 := (i 1).isLt
  have he : (ctxM.access hiRect).emb (ix2 ⟨(i 0).val - 128, by omega⟩ ⟨(i 1).val, h1⟩) = i := by
    funext a; apply Fin.ext
    refine (view_emb_slice_whole_unit_val cc0_scratch0 _ _ _ _ a).trans ?_
    fin_cases a
    · show 128 + ((i 0).val - 128) = (i 0).val; omega
    · exact Nat.zero_add _
  conv_lhs => rw [← he]
  rw [View.write_emb_of_mem _ _ (Finset.mem_univ _)]
  unfold ctxV
  rw [dif_neg (by omega)]
  rfl

/-- The own slot: the own chunk of the own `ctx`. -/
theorem rs_own (f : (cc0_scratch1 : Ref sig .tc).ty.Contents (Elt F)) (i : (cc0_scratch1 : Ref sig .tc).ty.shape.Idx) (hi : i ∈ rsSet c) :
    (rsM.access (rsRect c)).write (Elt F) f (k0_pay18 (ctxM.view.readAt (Elt F) (ctxRect c).toLoadRect (ctxV I c))) Finset.univ i = rsV I c i := by
  have h0 := mem_rsSet.mp hi
  have h1 : (i 1).val < 32 := (i 1).isLt
  have h2 : (i 2).val < 256 := (i 2).isLt
  have he : (rsM.access (rsRect c)).emb (ix3 (0 : Fin 1) ⟨(i 1).val, h1⟩ ⟨(i 2).val, h2⟩) = i := by
    funext a; apply Fin.ext
    refine (view_emb_slice_whole_unit_val cc0_scratch1 _ _ _ _ a).trans ?_
    fin_cases a
    · exact h0.symm
    · exact Nat.zero_add _
    · exact Nat.zero_add _
  conv_lhs => rw [← he]
  rw [View.write_emb_of_mem _ _ (Finset.mem_univ _)]
  unfold rsV
  rw [show (⟨(i 0).val, (i 0).isLt⟩ : Dev nD) = c from Fin.ext h0]
  unfold k0_pay18
  show shapeCast S1x32x256 (ctxM.view.readAt (Elt F) (ctxRect c).toLoadRect (ctxV I c)) shapeCasts_S32x256_S1x32x256 (ix3 (0 : Fin 1) ⟨(i 1).val, h1⟩ ⟨(i 2).val, h2⟩) = _
  refine (shapeCast_addUnit_apply ![32, 256] _ _ (ix3 (0 : Fin 1) ⟨(i 1).val, h1⟩ ⟨(i 2).val, h2⟩)).trans ?_
  refine congrArg (ctxV I c) (funext fun a => Fin.ext ?_)
  refine (rect_emb_unit_val _ _ _ _ a).trans ?_
  fin_cases a
  · rfl
  · exact Nat.zero_add _

/-- The own rows of the result. -/
theorem out_own (f : (cc0_stg5_0 : Ref sig .tc).ty.Contents (Elt F)) (i : (cc0_stg5_0 : Ref sig .tc).ty.shape.Idx) (hi : i ∈ outSet c) :
    (oM.access (outRect c)).write (Elt F) f (accV I c) Finset.univ i = outV I i :=
  out_landed I c f i hi

theorem sb_stored (f : (cc0_scratch2 : Ref sig .tc).ty.Contents (Elt F)) (a : FVec F S32x512 .f32) (b d) (h : k0_pay23 a b d = accV I c) :
    (sbM.access (Rect.unit (s := S32x512) ![0, 0] S32x512.size inb_S32x512_S32x512_0_0)).write (Elt F) f (k0_pay24 a b d) Finset.univ = accV I c := by
  unfold k0_pay24
  rw [shapeCast_self, h]
  funext i
  have he : (sbM.access (Rect.unit (s := S32x512) ![0, 0] S32x512.size inb_S32x512_S32x512_0_0)).emb i = i := by
    funext a; apply Fin.ext
    refine (view_emb_slice_whole_unit_val cc0_scratch2 _ _ _ _ a).trans ?_
    fin_cases a
    · exact Nat.zero_add _
    · exact Nat.zero_add _
  conv_lhs => rw [← he]
  rw [View.write_emb_of_mem _ _ (Finset.mem_univ _)]
  rfl

/-! ## The staged rows, read by seven copies at once -/

theorem sb_split (f : (cc0_scratch2 : Ref sig .tc).ty.Contents (Elt F)) : (sbWh c f : sProp 𝕄)
    ⊢ iprop(sbPt c (Transfers.shareDrop fullShare 8) f ∗ sbPt c (sbTok c) f ∗ bigSep (Finset.univ.erase c) (fun d => sbPt c (sbTok d) f)) := by
  have h := Transfers.pointsTo_toks_split (Ix := Unit) (Name := ℕ) (U := UU) (Lvl := ℕ) (ℓ := (c : Thread nD τ).loc cc0_scratch2) (S := Finset.univ) (f := f) fullShare 8
  rw [bs_erase (Finset.mem_univ c)] at h; exact h
theorem sb_join (f : (cc0_scratch2 : Ref sig .tc).ty.Contents (Elt F)) :
    iprop(sbPt c (Transfers.shareDrop fullShare 8) f ∗ sbPt c (sbTok c) f ∗ bigSep (Finset.univ.erase c) (fun d => sbPt c (sbTok d) f)) ⊢ (sbWh c f : sProp 𝕄) := by
  have h := Transfers.pointsTo_toks_join (Ix := Unit) (Name := ℕ) (U := UU) (Lvl := ℕ) (ℓ := (c : Thread nD τ).loc cc0_scratch2) (S := Finset.univ) (f := f) fullShare 8
  rw [bs_erase (Finset.mem_univ c)] at h; exact h

end Cert.KernelIdeal.Talk
-- ==== Proof.Parts.lean ====
/-
  The parts of the body that talk: what each takes and what it leaves.
-/
module

public import proofs.«01_k».proof.Proof.Split

@[expose] public section

set_option maxRecDepth 16384

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.ValueKit

variable {F : FTy → Type} [FloatOps F]

local notation "𝕄" => MT nD τ sig Unit (Elt F) ℕ UU ℕ

variable (I : Ins F) (K : GSem nD τ sig → ℕ) (c : Dev nD)

theorem bs_sep {X : Type} (S : Finset X) (Φ Ψ : X → sProp 𝕄) : bigSep S (fun i => iprop(Φ i ∗ Ψ i)) = iprop(bigSep S Φ ∗ bigSep S Ψ) := bigSep_sep S Φ Ψ

/-- The other devices. -/
abbrev oth : Finset (Dev nD) := Finset.univ.erase c
/-- Some debt, whatever has been waited on. -/
abbrev ows (O : CellTallies nD τ sig Unit) : sProp 𝕄 := iprop(∃ W, owes (c : Thread nD τ) O W)

/-! ## The loops, for any list of devices in order -/

theorem sig_loop {α : Type} (Kt : PROG (F := F) α) (Q : α → sProp 𝕄) (l : List (Dev nD)) (k m : ℕ) (h : InOrder k l m) (hm : m ≤ 8) :
    iprop(Recs I K ∗ sigRes c k) ⊢ iprop((sigRes c m -∗ WP c Kt Q) -∗ WP c (each l (sigA c) Kt) Q) :=
  each_wp c (sigA c) (Recs I K) (sigRes c) 8 Q
    (fun d k Kt hk _ => sig_step I K c (fun _ => d) barS Kt Q d k hk (cnd_iff c d) (fun _ => rfl) rfl) l k m Kt h hm

theorem rs_loop {α : Type} (Kt : PROG (F := F) α) (Q : α → sProp 𝕄) (l : List (Dev nD)) (k m M : ℕ) (h : InOrder k l m) (hm : m ≤ M) :
    iprop((Recs I K ∗ Opn c) ∗ rsRes I c k M) ⊢ iprop((rsRes I c m M -∗ WP c Kt Q) -∗ WP c (each l (rsA c) Kt) Q) :=
  each_wp c (rsA c) iprop(Recs I K ∗ Opn c) (fun k => rsRes I c k M) M Q
    (fun d k Kt hk hM => sep_assoc.1.trans
      (rs_step I K c (fun _ => d) ![32 * d.val, 0] (inb_ctx d) (offR c) (fun _ => inb_offR c) (os (k1 d)) (os kr0) Kt Q d k M hk hM (cnd_iff c d)
        (fun _ => rfl) rfl (offR_eq c) rfl rfl)) l k m Kt h hm

theorem rv0_loop (O : CellTallies nD τ sig Unit) (hL : (levAts L lv : sProp 𝕄) ⊢ MayOwe (c : Thread nD τ) {(osem kr0, ())} O)
    {α : Type} (Kt : PROG (F := F) α) (Q : α → sProp 𝕄) (l : List (Dev nD)) (k m : ℕ) (h : InOrder k l m) (hm : m ≤ 8) :
    iprop((Recs I K ∗ levAts L lv) ∗ rvRes c kr0 N1 (rsPay I c) O k) ⊢ iprop((rvRes c kr0 N1 (rsPay I c) O m -∗ WP c Kt Q) -∗ WP c (each l (rv0A c) Kt) Q) :=
  each_wp c (rv0A c) iprop(Recs I K ∗ levAts L lv) (rvRes c kr0 N1 (rsPay I c) O) 8 Q
    (fun d k Kt hk _ => sep_assoc.1.trans
      (rv_step I K c kr0 N1 (rsPay I c) O (duties_r0 I c) (expect_r0 I c) (payload_r0 I c) hL (os kr0) (ctxC 0) (rsC d) _ _ Kt Q d k hk (cnd_iff c d) rfl rfl))
    l k m Kt h hm

theorem rv1_loop (O : CellTallies nD τ sig Unit) (hL : (levAts L lv : sProp 𝕄) ⊢ MayOwe (c : Thread nD τ) {(osem kr1, ())} O)
    {α : Type} (Kt : PROG (F := F) α) (Q : α → sProp 𝕄) (l : List (Dev nD)) (k m : ℕ) (h : InOrder k l m) (hm : m ≤ 8) :
    iprop((Recs I K ∗ levAts L lv) ∗ rvRes c kr1 N2 (outPay I c) O k) ⊢ iprop((rvRes c kr1 N2 (outPay I c) O m -∗ WP c Kt Q) -∗ WP c (each l (rv1A c) Kt) Q) :=
  each_wp c (rv1A c) iprop(Recs I K ∗ levAts L lv) (rvRes c kr1 N2 (outPay I c) O) 8 Q
    (fun d k Kt hk _ => sep_assoc.1.trans
      (rv_step I K c kr1 N2 (outPay I c) O (duties_r1 I c) (expect_r1 I c) (payload_r1 I c) hL (os kr1) sbM (outC d) _ _ Kt Q d k hk (cnd_iff c d) rfl rfl))
    l k m Kt h hm

theorem out_loop {α : Type} (Kt : PROG (F := F) α) (Q : α → sProp 𝕄) (l : List (Dev nD)) (k m : ℕ) (h : InOrder k l m) (hm : m ≤ 8) :
    iprop((Recs I K ∗ Opn c) ∗ outRes I c k) ⊢ iprop((outRes I c m -∗ WP c Kt Q) -∗ WP c (each l (outA c) Kt) Q) :=
  each_wp c (outA c) iprop(Recs I K ∗ Opn c) (outRes I c) 8 Q
    (fun d k Kt hk _ => sep_assoc.1.trans
      (out_step I K c (fun _ => d) (offC c) (fun _ => inb_offO c) (os (k2 d)) (os kr1) Kt Q d k hk (cnd_iff c d) (fun _ => rfl) (offC_eq c) rfl rfl)) l k m Kt h hm

theorem fin_loop {α : Type} (Kt : PROG (F := F) α) (Q : α → sProp 𝕄) (l : List (Dev nD)) (k m : ℕ) (h : InOrder k l m) (hm : m ≤ 8) :
    iprop(Recs I K ∗ finRes I c k) ⊢ iprop((finRes I c m -∗ WP c Kt Q) -∗ WP c (each l (finA c) Kt) Q) :=
  each_wp c (finA c) (Recs I K) (finRes I c) 8 Q
    (fun d k Kt hk _ => fin_step I K c (os (k1 d)) (os (k2 d)) _ (ctxC d) (fun _ => (View.wordExact_bits rfl).reshape _ _) _ _ sbM
      (fun _ => View.wordExact_bits rfl) _ Kt Q d k hk (cnd_iff c d) rfl rfl rfl rfl) l k m Kt h hm

/-! ## Part 1: the entry barrier -/

def barTok : sProp 𝕄 := bigSep (oth c) (fun d => dutyTok ER (barCell d) 0 c)

theorem bar_pay1 (d : Dev nD) (f g) : iprop(dutyTok ER (barCell d) 0 c ∗ rsPt c d f ∗ outPt c d g ∗ reached ER (oCell c kr0) 0 ∗ reached ER (oCell c kr1) 0)
    ⊢ (iprop(dutyTok ER (barCell d) 0 c ∗ barPay d c) : sProp 𝕄) := by
  unfold barPay
  iintro ⟨H1, H2, H3, H4⟩
  isplitl [H1]; · iexact H1
  isplitl [H2]; · iexists f; iexact H2
  isplitl [H3]; · iexists g; iexact H3
  iexact H4

theorem bar_pay_all (f g) : (bigSep (oth c) (fun d => iprop(dutyTok ER (barCell d) 0 c ∗ rsPt c d f ∗ outPt c d g ∗ reached ER (oCell c kr0) 0 ∗ reached ER (oCell c kr1) 0)) : sProp 𝕄)
    ⊢ bigSep (oth c) (fun d => iprop(dutyTok ER (barCell d) 0 c ∗ barPay d c)) :=
  bigSep_mono fun d _ => bar_pay1 c d f g

theorem bar_pays (f g) : iprop(Opn c ∗ barTok c ∗ bigSep (oth c) (fun d => rsPt c d f) ∗ bigSep (oth c) (fun d => outPt c d g))
    ⊢ (bigSep (Rem 0 8 c) (fun d => iprop(dutyTok ER (barCell d) 0 c ∗ barPay d c)) : sProp 𝕄) := by
  rw [Rem_full]
  have hp : (Opn c : sProp 𝕄) ⊢ bigSep (oth c) (fun _ => iprop(reached ER (oCell c kr0) 0 ∗ reached ER (oCell c kr1) 0)) := by
    refine BI.bigSep_intro_persistent fun d _ => ?_
    iintro #H
    isplitr
    · iapply (Opn_k c kr0) $$ H
    · iapply (Opn_k c kr1) $$ H
  unfold barTok
  iintro ⟨#Ho, H1, H2, H3⟩
  ihave H4 := hp $$ Ho
  ihave H := (Entails.of_eq ((congrArg (fun X => iprop(bigSep (oth c) (fun d => dutyTok ER (barCell d) 0 c) ∗ X))
      ((congrArg (fun X => iprop(bigSep (oth c) (fun d => rsPt c d f) ∗ X)) (bs_sep (oth c) (fun d => outPt c d g) _).symm).trans
        (bs_sep (oth c) (fun d => rsPt c d f) _).symm)).trans (bs_sep (oth c) _ _).symm)) $$ [H1 H2 H3 H4]
  · isplitl [H1]; · iexact H1
    isplitl [H2]; · iexact H2
    isplitl [H3]; · iexact H3
    iexact H4
  iapply (bar_pay_all c f g) $$ H

theorem rest_bar : bigSep ((Rd I).duties (barCell c) 0 \ ∅) (fun e => (Rd I).payload (barCell c) 0 e) = bigSep (oth c) (barPay c) := by
  rw [Finset.sdiff_empty, duties_bar]
  exact bigSep_congr (fun e _ => payload_bar I c e)

theorem part1_wp (Q) (f g) :
    iprop((Recs I K ∗ Opn c ∗ levAts L lv) ∗ (atPos ER (barCell c) 0 ∅ 0 ∗ cred (tallyAt (barCell c) () 7) ∗ barTok c
        ∗ bigSep (oth c) (fun d => rsPt c d f) ∗ bigSep (oth c) (fun d => outPt c d g) ∗ ows c (O₀ c))
      ∗ ((semVal (barCell c) 0 ∗ bigSep (oth c) (barPay c) ∗ ows c (debt ∅ (oth c) (oth c))) -∗ Q ⟨c, w2 c⟩))
      ⊢ WP c P1 Q := by
  unfold P1
  rw [k0_part1_eq_skeleton, part1_form]
  simp only [Prog.lift, Prog.bind_op, Prog.bind_ret]
  iintro ⟨⟨#Hrec, #Hopn, #Hlev⟩, ⟨Hat, Hc, Htok, Hrs, Hout, ⟨%W, HO⟩⟩, Hret⟩
  rw [WP, wp_deviceId]
  iapply (sig_loop I K c _ _ [0, 1, 2, 3, 4, 5, 6, 7] 0 8 ⟨rfl, rfl, rfl, rfl, rfl, rfl, rfl, rfl, rfl⟩ le_rfl) $$ [Htok Hrs Hout HO]
  · isplitr; · iexact Hrec
    unfold sigRes
    isplitr [HO]
    · iapply (bar_pays c f g)
      isplitr; · iexact Hopn
      isplitl [Htok]; · iexact Htok
      isplitl [Hrs]; · iexact Hrs
      iexact Hout
    · iexists W; rw [Rem_full]; iexact HO
  unfold sigRes
  rw [Rem_done 8 8 le_rfl, bigSep_empty]
  iintro ⟨-, ⟨%W, HO⟩⟩
  simp only [semWaitWord, Prog.bind_op, Prog.bind_ret]
  ihave Hb := (Recs_bar I K c) $$ Hrec
  icases Hb with ⟨#Hi, -⟩
  iapply (Rounds.wp_wait_rest_token 𝒱₀ ER (Rd I) (c : Thread nD τ) none (κ := K (barCell c))
      (wpE_semWait_eq 𝒱₀ (c : Thread nD τ) none Set.univ) (Set.mem_univ _) () (O := debt ∅ (oth c) (oth c)) (W := W) (R := 0) (m := 0) (T := ∅)
      ((Nat.zero_add 7).trans (expect_bar I c).symm)) $$ [Hc HO Hat]
  · isplitr; · iexact Hi
    isplitl [Hc]; · iexact Hc
    isplitl [HO]; · iexact HO
    isplitr; · iapply (mayWait_bar c _ _); iexact Hlev
    iexact Hat
  iintro ⟨HO, Hat, -, Hpay⟩
  imod (Rounds.cell_close ER (Rd I) (Set.mem_univ (K (barCell c))) id (duties_later I (barCell c))) $$ [Hat] with H0
  · isplitr; · iexact Hi
    iexact Hat
  rw [Prog.pure_eq_ret]
  iapply (done _ _ _)
  iapply Hret
  isplitl [H0]; · iexact H0
  isplitl [Hpay]; · iapply (Entails.of_eq (rest_bar I c)) $$ Hpay
  iexists _; iexact HO

end Cert.KernelIdeal.Talk
-- ==== Proof.Stores.lean ====
/-
  The parts of the body that store: the context in halves, the own slot,
  the own rows, and the copies they start.
-/
module

public import proofs.«01_k».proof.Proof.Parts

@[expose] public section

set_option maxRecDepth 16384

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.ValueKit

variable {F : FTy → Type} [FloatOps F]

local notation "𝕄" => MT nD τ sig Unit (Elt F) ℕ UU ℕ

variable (I : Ins F) (K : GSem nD τ sig → ℕ) (c : Dev nD)

/-! ## Loads and stores of the own regions -/

theorem own_ctx_load {o : Fin 2 → ℕ} (ho : o = ![32 * c.val, 0]) (i) (hl) {α : Type} (k : (S32x256.Idx → Elt F .f32) → PROG (F := F) α) (Q : α → sProp 𝕄) (f) :
    (ctxPt c c f : sProp 𝕄) ⊢ iprop((ctxPt c c f -∗ WP c (k (ctxM.view.readAt (Elt F) (ctxRect c).toLoadRect f)) Q)
      -∗ WP c (.op (.load ctxM (Rect.unit (s := S256x256) o S32x256.size i).toLoadRect hl) k) Q) := by
  subst ho
  exact wp_load_rect 𝒱₀ (c : Thread nD τ) none Set.univ (m := ctxM) (r := ctxRect c) (ctxC_set c).le

theorem rsRect_acc : (rsM.access (rsRect c)).set = rsSet c := (View.set_slice_whole _ _).trans (rsRect_set c)
theorem outRect_acc : (oM.access (outRect c)).set = outSet c := (View.set_slice_whole _ _).trans (outRect_set c)

theorem own_rs_load {o : Fin 3 → ℕ} (ho : o = ![c.val, 0, 0]) (i) (hl) {α : Type} (k : (S1x32x256.Idx → Elt F .f32) → PROG (F := F) α) (Q : α → sProp 𝕄) (f) :
    (rsPt c c f : sProp 𝕄) ⊢ iprop((rsPt c c f -∗ WP c (k (rsM.view.readAt (Elt F) (rsRect c).toLoadRect f)) Q)
      -∗ WP c (.op (.load rsM (Rect.unit (s := S8x32x256) o S1x32x256.size i).toLoadRect hl) k) Q) := by
  subst ho
  exact wp_load_rect 𝒱₀ (c : Thread nD τ) none Set.univ (m := rsM) (r := rsRect c) (rsRect_acc c).le

theorem own_out_load {o : Fin 2 → ℕ} (ho : o = ![32 * c.val, 0]) (i) (hl) {α : Type} (k : (S32x512.Idx → Elt F .f32) → PROG (F := F) α) (Q : α → sProp 𝕄) (f) :
    (outPt c c f : sProp 𝕄) ⊢ iprop((outPt c c f -∗ WP c (k (oM.view.readAt (Elt F) (outRect c).toLoadRect f)) Q)
      -∗ WP c (.op (.load oM (Rect.unit (s := S256x512) o S32x512.size i).toLoadRect hl) k) Q) := by
  subst ho
  exact wp_load_rect 𝒱₀ (c : Thread nD τ) none Set.univ (m := oM) (r := outRect c) (outRect_acc c).le

theorem own_rs_store {o : Fin 3 → ℕ} (ho : o = ![c.val, 0, 0]) (i) (hx) (hm) {α : Type} (k : PUnit → PROG (F := F) α) (Q : α → sProp 𝕄) (f) :
    (rsPt c c f : sProp 𝕄) ⊢ iprop((rsPt c c (rsV I c) -∗ WP c (k ⟨⟩) Q)
      -∗ WP c (.op (.store rsM (Rect.unit (s := S8x32x256) o S1x32x256.size i) (k0_pay18 (ctxM.view.readAt (Elt F) (ctxRect c).toLoadRect (ctxV I c))) Finset.univ hx hm) k) Q) := by
  subst ho
  have h : (rsPt c c f : sProp 𝕄) ⊢ iprop((rsPt c c ((rsM.access (rsRect c)).write (Elt F) f (k0_pay18 (ctxM.view.readAt (Elt F) (ctxRect c).toLoadRect (ctxV I c))) Finset.univ) -∗ WP c (k ⟨⟩) Q)
      -∗ WP c (.op (.store rsM (rsRect c) (k0_pay18 (ctxM.view.readAt (Elt F) (ctxRect c).toLoadRect (ctxV I c))) Finset.univ hx hm) k) Q) :=
    wp_store 𝒱₀ (c : Thread nD τ) none Set.univ (m := rsM) (r := rsRect c) (rsRect_acc c).le
  have e : (rsPt c c ((rsM.access (rsRect c)).write (Elt F) f (k0_pay18 (ctxM.view.readAt (Elt F) (ctxRect c).toLoadRect (ctxV I c))) Finset.univ) : sProp 𝕄) = rsPt c c (rsV I c) :=
    pointsTo_congr (rs_own I c f)
  rw [e] at h
  exact h

theorem own_out_store {o : Fin 2 → ℕ} (ho : o = ![32 * c.val, 0]) (i) (hx) (hm) {α : Type} (k : PUnit → PROG (F := F) α) (Q : α → sProp 𝕄) (f) (v : FVec F S32x512 .f32) (hv : v = accV I c) :
    (outPt c c f : sProp 𝕄) ⊢ iprop((outPt c c (outV I) -∗ WP c (k ⟨⟩) Q)
      -∗ WP c (.op (.store oM (Rect.unit (s := S256x512) o S32x512.size i) v Finset.univ hx hm) k) Q) := by
  subst ho hv
  have h : (outPt c c f : sProp 𝕄) ⊢ iprop((outPt c c ((oM.access (outRect c)).write (Elt F) f (accV I c) Finset.univ) -∗ WP c (k ⟨⟩) Q)
      -∗ WP c (.op (.store oM (outRect c) (accV I c) Finset.univ hx hm) k) Q) :=
    wp_store 𝒱₀ (c : Thread nD τ) none Set.univ (m := oM) (r := outRect c) (outRect_acc c).le
  have e : (outPt c c ((oM.access (outRect c)).write (Elt F) f (accV I c) Finset.univ) : sProp 𝕄) = outPt c c (outV I) :=
    pointsTo_congr (out_own I c f)
  rw [e] at h
  exact h

/-! ## What the barrier's payments are for -/

def rsGo : sProp 𝕄 := bigSep (Rem 0 8 c) (fun d => iprop(dutyTok ER (r0Cell d) 0 c ∗ dutyTok ER (oCell c (k1 d)) 0 d ∗ (∃ f, rsPt d c f) ∗ reached ER (r0Cell d) 0))
def outGo : sProp 𝕄 := bigSep (Rem 0 8 c) (fun d => iprop(dutyTok ER (r1Cell d) 0 c ∗ dutyTok ER (oCell c (k2 d)) 0 d ∗ (∃ f, outPt d c f) ∗ reached ER (r1Cell d) 0))
/-- The rights to complete the device's copies. -/
def goTok : sProp 𝕄 := bigSep (oth c) (fun d => iprop((dutyTok ER (r0Cell d) 0 c ∗ dutyTok ER (oCell c (k1 d)) 0 d) ∗ (dutyTok ER (r1Cell d) 0 c ∗ dutyTok ER (oCell c (k2 d)) 0 d)))

theorem go_one (d : Dev nD) : iprop(((dutyTok ER (r0Cell d) 0 c ∗ dutyTok ER (oCell c (k1 d)) 0 d) ∗ (dutyTok ER (r1Cell d) 0 c ∗ dutyTok ER (oCell c (k2 d)) 0 d)) ∗ barPay c d)
    ⊢ (iprop((dutyTok ER (r0Cell d) 0 c ∗ dutyTok ER (oCell c (k1 d)) 0 d ∗ (∃ f, rsPt d c f) ∗ reached ER (r0Cell d) 0)
      ∗ (dutyTok ER (r1Cell d) 0 c ∗ dutyTok ER (oCell c (k2 d)) 0 d ∗ (∃ f, outPt d c f) ∗ reached ER (r1Cell d) 0)) : sProp 𝕄) := by
  unfold barPay
  iintro ⟨⟨⟨H1, H2⟩, H3, H4⟩, H5, H6, H7, H8⟩
  isplitl [H1 H2 H5 H7]
  · isplitl [H1]; · iexact H1
    isplitl [H2]; · iexact H2
    isplitl [H5]; · iexact H5
    iexact H7
  · isplitl [H3]; · iexact H3
    isplitl [H4]; · iexact H4
    isplitl [H6]; · iexact H6
    iexact H8

theorem go_open : iprop(goTok c ∗ bigSep (oth c) (barPay c)) ⊢ (iprop(rsGo c ∗ outGo c) : sProp 𝕄) := by
  unfold goTok rsGo outGo
  rw [Rem_full, ← bs_sep, ← bs_sep]
  exact bigSep_mono fun d _ => go_one c d

/-! ## Part 4: the first half of the context, and its copies -/

theorem lo_split (f) : (ctxWh c ((ctxM.access loRect).write (Elt F) f (half0 I c) Finset.univ) : sProp 𝕄)
    = iprop((bigSep (Rem 0 4 c) (fun d => ctxPt c d (ctxV I c)) ∗ bigSep (ownLO c) (fun d => ctxPt c d (ctxV I c)))
      ∗ bigSep HI (fun d => ctxPt c d ((ctxM.access loRect).write (Elt F) f (half0 I c) Finset.univ))) := by
  rw [ctx_all, ctx_halves, ← lo_own c (fun d => ctxPt c d (ctxV I c))]
  exact congrArg (fun X => iprop(X ∗ _)) (bigSep_congr fun d hd => pointsTo_congr fun i hi => lo_stored I c f d hd i hi)

theorem part4_wp (v50 v68 v86 v91 v94) (h0 : k0_pay10 v50 v68 v86 v91 v94 = half0 I c) (Q) :
    iprop((Recs I K ∗ Opn c) ∗ (xPt I c ∗ qPt I c ∗ (∃ f, ctxWh c f) ∗ rsGo c ∗ ows c (debt ∅ (oth c) (oth c)))
      ∗ ((xPt I c ∗ qPt I c ∗ (∃ f, bigSep HI (fun d => ctxPt c d f)) ∗ bigSep (ownLO c) (fun d => ctxPt c d (ctxV I c)) ∗ rsRes I c 4 4)
        -∗ Q ⟨k0_pay11 (ldX I c ![1, 0, 0] inb_S2x128x512_S1x128x512_1_0_0) (ldQ I c), k0_pay12 (ldX I c ![1, 0, 0] inb_S2x128x512_S1x128x512_1_0_0) (ldQ I c)⟩))
      ⊢ WP c (P4 c (w2 c) v50 v68 v86 v91 v94) Q := by
  unfold P4
  rw [k0_part4_eq_skeleton, part4_form, h0]
  simp only [Prog.lift, Prog.bind_op, Prog.bind_ret]
  iintro ⟨⟨#Hrec, #Hopn⟩, ⟨Hx, Hq, ⟨%f, Hctx⟩, Hgo, HO⟩, Hret⟩
  iapply (ld c ctxM _ _ _ _ _) $$ Hctx; iintro Hctx
  iapply (wp_store 𝒱₀ (c : Thread nD τ) none Set.univ (m := ctxM) (r := loRect) (Finset.subset_univ _)) $$ Hctx; iintro Hctx
  ihave Hctx := (Entails.of_eq (lo_split I c f)) $$ Hctx
  icases Hctx with ⟨⟨Hs, Hown⟩, Hhi⟩
  iapply (rs_loop I K c _ _ [0, 1, 2, 3] 0 4 4 ⟨rfl, rfl, rfl, rfl, rfl⟩ le_rfl) $$ [Hs Hgo HO]
  · isplitr
    · isplitr; · iexact Hrec
      iexact Hopn
    unfold rsRes Don
    rw [Rem_done 0 0 le_rfl, bigSep_empty, Rem_full]
    isplitl [Hgo]; · unfold rsGo; rw [Rem_full]; iexact Hgo
    isplitl [Hs]; · iexact Hs
    isplitr; · iempintro
    iexact HO
  iintro Hres
  iapply (ld c xM _ _ _ _ _) $$ Hx; iintro Hx
  iapply (ld c qM _ _ _ _ _) $$ Hq; iintro Hq
  rw [Prog.pure_eq_ret]
  iapply (done _ _ _)
  iapply Hret
  isplitl [Hx]; · iexact Hx
  isplitl [Hq]; · iexact Hq
  isplitl [Hhi]; · iexists _; iexact Hhi
  isplitl [Hown]; · iexact Hown
  iexact Hres

/-! ## Part 7: the second half, its copies, and the own slot -/

theorem hi_whole (f) : (bigSep HI (fun d => ctxPt c d f) : sProp 𝕄) = (((c : Thread nD τ).loc cc0_scratch0) ↦[HI.biUnion ctxSet]{fullShare} f) :=
  (pointsTo_biUnion (Ix := Unit) (Name := ℕ) (U := UU) (Lvl := ℕ) (ℓ := (c : Thread nD τ).loc cc0_scratch0) (q := fullShare) (f := f) HI ctxSet
    (fun d _ e _ hde => ctxSet_disj d e hde)).symm

theorem hi_sub : (ctxM.access hiRect).set ⊆ HI.biUnion ctxSet := by
  intro i hi
  have e : (ctxM.access hiRect).set = hiRect.set := View.set_slice_whole _ _
  have hi' := hi
  rw [e, Rect.mem_set_unit] at hi'
  have h0 := hi' 0
  have h256 : (i 0).val < 256 := (i 0).isLt
  have hge : 128 ≤ (i 0).val := h0.1
  refine Finset.mem_biUnion.mpr ⟨⟨(i 0).val / 32, by show _ < 8; omega⟩, Finset.mem_filter.mpr ⟨Finset.mem_univ _, ?_⟩, mem_ctxSet.mpr rfl⟩
  show 4 ≤ (i 0).val / 32
  omega

theorem hi_written (f) : (bigSep HI (fun d => ctxPt c d ((ctxM.access hiRect).write (Elt F) f (half1 I c) Finset.univ)) : sProp 𝕄)
    = iprop(bigSep (Rem 4 8 c) (fun d => ctxPt c d (ctxV I c)) ∗ bigSep (ownHI c) (fun d => ctxPt c d (ctxV I c))) := by
  rw [← hi_own c (fun d => ctxPt c d (ctxV I c))]
  exact bigSep_congr fun d hd => pointsTo_congr fun i hi => hi_stored I c f d hd i hi

theorem rs_next : iprop(rsRes I c 4 4 ∗ bigSep (Rem 4 8 c) (fun d => ctxPt c d (ctxV I c))) ⊢ (rsRes I c 4 8 : sProp 𝕄) := by
  unfold rsRes
  iintro ⟨⟨H1, -, H3, H4⟩, H2⟩
  isplitl [H1]; · iexact H1
  isplitl [H2]; · iexact H2
  isplitl [H3]; · iexact H3
  iexact H4

theorem rs_end : (rsRes I c 8 8 : sProp 𝕄) ⊢ iprop(bigSep (oth c) (fun d => cred (tallyAt (oCell c (k1 d)) () N1)) ∗ ows c (debt ∅ ∅ (oth c))) := by
  unfold rsRes Don
  rw [Rem_done 8 8 le_rfl, Rem_full]
  iintro ⟨-, -, H3, H4⟩
  isplitl [H3]; · iexact H3
  iexact H4

theorem card_oth : (oth c).card = 7 := by revert c; decide

theorem rv_start (kr : Fin 18) (N : ℕ) (hN : 0 < N) (pay : Dev nD → sProp 𝕄) (O : CellTallies nD τ sig Unit) :
    iprop(bigSep (oth c) (fun _ => cred (tallyAt (oCell c kr) () N)) ∗ atPos ER (oCell c kr) 0 ∅ 0 ∗ ows c O) ⊢ rvRes c kr N pay O 0 := by
  unfold rvRes
  rw [Rem_full]
  iintro ⟨H1, H2, H3⟩
  isplitl [H1]; · iexact H1
  isplitl [H2]
  · iexists ∅, 0
    isplitr
    · ipureintro
      refine ⟨Finset.empty_subset _, (Nat.zero_add _).trans (card_oth c), ?_⟩
      rw [Finset.sdiff_empty, card_oth c]; omega
    rw [Nat.zero_mul, bigSep_empty]
    isplitl [H2]; · iexact H2
    iempintro
  iexact H3

theorem part7_wp (v198) (h1 : k0_pay17 v198 = half1 I c) (Q) :
    iprop((Recs I K ∗ Opn c ∗ levAts L lv) ∗ ((∃ f, bigSep HI (fun d => ctxPt c d f)) ∗ bigSep (ownLO c) (fun d => ctxPt c d (ctxV I c)) ∗ rsRes I c 4 4
        ∗ (∃ f, rsPt c c f) ∗ bigSep (oth c) (fun _ => cred (tallyAt (oCell c kr0) () N1)) ∗ atPos ER (oCell c kr0) 0 ∅ 0)
      ∗ ((ctxPt c c (ctxV I c) ∗ bigSep (oth c) (fun d => cred (tallyAt (oCell c (k1 d)) () N1)) ∗ rsPt c c (rsV I c) ∗ rvRes c kr0 N1 (rsPay I c) (debt ∅ ∅ (oth c)) 3) -∗ Q ⟨⟩))
      ⊢ WP c (P7 c (w2 c) v198) Q := by
  unfold P7
  rw [k0_part7_eq_skeleton, part7_form, h1]
  simp only [Prog.lift, Prog.bind_op, Prog.bind_ret]
  iintro ⟨⟨#Hrec, #Hopn, #Hlev⟩, ⟨⟨%f, Hhi⟩, Hlo, Hres, ⟨%g, Hslot⟩, Hcr, Hat⟩, Hret⟩
  ihave Hhi := (Entails.of_eq (hi_whole c f)) $$ Hhi
  iapply (wp_load_rect 𝒱₀ (c : Thread nD τ) none Set.univ (m := ctxM) (r := hiRect) hi_sub) $$ Hhi; iintro Hhi
  iapply (wp_store 𝒱₀ (c : Thread nD τ) none Set.univ (m := ctxM) (r := hiRect) hi_sub) $$ Hhi; iintro Hhi
  ihave Hhi := (Entails.of_eq ((hi_whole c _).symm.trans (hi_written I c f))) $$ Hhi
  icases Hhi with ⟨Hs, Hown⟩
  ihave Hown := (Entails.of_eq (own_both c (fun d => ctxPt c d (ctxV I c)))) $$ [Hlo Hown]
  · isplitl [Hlo]; · iexact Hlo
    iexact Hown
  ihave Hres := (rs_next I c) $$ [Hres Hs]
  · isplitl [Hres]; · iexact Hres
    iexact Hs
  iapply (rs_loop I K c _ _ [4, 5, 6, 7] 4 8 8 ⟨rfl, rfl, rfl, rfl, rfl⟩ le_rfl) $$ [Hres]
  · isplitr
    · isplitr; · iexact Hrec
      iexact Hopn
    iexact Hres
  iintro Hres
  ihave Hres := (rs_end I c) $$ Hres
  icases Hres with ⟨Hc1, HO⟩
  iapply (own_ctx_load c (offC_eq c) _ _ _ _ _) $$ Hown; iintro Hown
  iapply (own_rs_load c (offR_eq c) _ _ _ _ _) $$ Hslot; iintro Hslot
  iapply (own_rs_store I c (offR_eq c) _ _ _ _ _ _) $$ Hslot; iintro Hslot
  iapply (rv0_loop I K c (debt ∅ ∅ (oth c)) (mayOwe_r0 c _) _ _ [0, 1, 2] 0 3 ⟨rfl, rfl, rfl, rfl⟩ (by omega)) $$ [Hcr Hat HO]
  · isplitr
    · isplitr; · iexact Hrec
      iexact Hlev
    iapply (rv_start c kr0 N1 N1_pos (rsPay I c) (debt ∅ ∅ (oth c)))
    isplitl [Hcr]; · iexact Hcr
    isplitl [Hat]; · iexact Hat
    iexact HO
  iintro Hrv
  rw [Prog.pure_eq_ret]
  iapply (done _ _ _)
  iapply Hret
  isplitl [Hown]; · iexact Hown
  isplitl [Hc1]; · iexact Hc1
  isplitl [Hslot]; · iexact Hslot
  iexact Hrv

/-! ## Part 8: the last receives of the first exchange -/

theorem part8_wp (Q) :
    iprop((Recs I K ∗ levAts L lv) ∗ (wPt I c ∗ rsPt c c (rsV I c) ∗ rvRes c kr0 N1 (rsPay I c) (debt ∅ ∅ (oth c)) 3)
      ∗ ((wPt I c ∗ gPt I c ∗ semVal (oCell c kr0) 0 ∗ ows c (debt ∅ ∅ (oth c)))
        -∗ Q ⟨k0_pay19 (ldR I c ![0, 0, 0] inb_S8x32x256_S1x32x256_0_0_0) (ldW I c ![0, 0] inb_S2048x512_S256x512_0_0) (ldR I c ![1, 0, 0] inb_S8x32x256_S1x32x256_1_0_0) (ldW I c ![256, 0] inb_S2048x512_S256x512_256_0),
          k0_pay20 (ldR I c ![2, 0, 0] inb_S8x32x256_S1x32x256_2_0_0)⟩))
      ⊢ WP c (P8 (w2 c)) Q := by
  unfold P8
  rw [k0_part8_eq_skeleton, part8_form]
  simp only [Prog.lift, Prog.bind_op, Prog.bind_ret]
  iintro ⟨⟨#Hrec, #Hlev⟩, ⟨Hw, Hslot, Hrv⟩, Hret⟩
  iapply (rv0_loop I K c (debt ∅ ∅ (oth c)) (mayOwe_r0 c _) _ _ [3, 4, 5, 6, 7] 3 8 ⟨rfl, rfl, rfl, rfl, rfl, rfl⟩ le_rfl) $$ [Hrv]
  · isplitr
    · isplitr; · iexact Hrec
      iexact Hlev
    iexact Hrv
  iintro Hrv
  imod (rv_done I K c kr0 N1 (rsPay I c) (debt ∅ ∅ (oth c)) (duties_r0 I c) (expect_r0 I c)) $$ [Hrv] with ⟨H0, Hpay, HO⟩
  · isplitr; · iexact Hrec
    iexact Hrv
  ihave Hg := (Entails.of_eq (rs_split c (rsV I c)).symm) $$ [Hslot Hpay]
  · isplitl [Hslot]; · iexact Hslot
    iexact Hpay
  iapply (ld c rsM _ _ _ _ _) $$ Hg; iintro Hg
  iapply (ld c wM _ _ _ _ _) $$ Hw; iintro Hw
  iapply (ld c rsM _ _ _ _ _) $$ Hg; iintro Hg
  iapply (ld c wM _ _ _ _ _) $$ Hw; iintro Hw
  iapply (ld c rsM _ _ _ _ _) $$ Hg; iintro Hg
  rw [Prog.pure_eq_ret]
  iapply (done _ _ _)
  iapply Hret
  isplitl [Hw]; · iexact Hw
  isplitl [Hg]; · iexact Hg
  isplitl [H0]; · iexact H0
  iexact HO

/-! ## Part 10: the own rows of the result, and their copies -/

theorem part10_wp (v285 v287) (h : k0_pay23 v285 v287 (ldW I c ![1792, 0] inb_S2048x512_S256x512_1792_0) = accV I c) (Q) :
    iprop((Recs I K ∗ Opn c) ∗ (wPt I c ∗ (∃ f, sbWh c f) ∗ (∃ f, outPt c c f) ∗ outGo c ∗ ows c (debt ∅ ∅ (oth c)))
      ∗ ((wPt I c ∗ sbPt c (Transfers.shareDrop fullShare 8) (accV I c) ∗ sbPt c (sbTok c) (accV I c) ∗ outPt c c (outV I) ∗ outRes I c 7) -∗ Q 7#32))
      ⊢ WP c (P10 c (w2 c) v285 v287) Q := by
  unfold P10
  rw [k0_part10_eq_skeleton, part10_form]
  simp only [Prog.lift, Prog.bind_op, Prog.bind_ret]
  iintro ⟨⟨#Hrec, #Hopn⟩, ⟨Hw, ⟨%f, Hsb⟩, ⟨%g, Hout⟩, Hgo, HO⟩, Hret⟩
  iapply (ld c wM _ _ _ _ _) $$ Hw; iintro Hw
  iapply (ld c sbM _ _ _ _ _) $$ Hsb; iintro Hsb
  iapply (wp_store 𝒱₀ (c : Thread nD τ) none Set.univ (m := sbM) (r := Rect.unit (s := S32x512) ![0, 0] S32x512.size inb_S32x512_S32x512_0_0) (Finset.subset_univ _)) $$ Hsb; iintro Hsb
  ihave Hsb := (Entails.of_eq (congrArg (sbWh c) (sb_stored I c f v285 v287 _ h))) $$ Hsb
  iapply (own_out_load c (offC_eq c) _ _ _ _ _) $$ Hout; iintro Hout
  iapply (own_out_store I c (offC_eq c) _ _ _ _ _ _ _ h) $$ Hout; iintro Hout
  ihave Hsb := (sb_split c (accV I c)) $$ Hsb
  icases Hsb with ⟨Hd, Ho, Hs⟩
  iapply (out_loop I K c _ _ [0, 1, 2, 3, 4, 5, 6] 0 7 ⟨rfl, rfl, rfl, rfl, rfl, rfl, rfl, rfl⟩ (by omega)) $$ [Hgo Hs HO]
  · isplitr
    · isplitr; · iexact Hrec
      iexact Hopn
    unfold outRes Don
    rw [Rem_done 0 0 le_rfl, bigSep_empty, Rem_full]
    isplitl [Hgo]; · unfold outGo; rw [Rem_full]; iexact Hgo
    isplitl [Hs]; · iexact Hs
    isplitr; · iempintro
    iexact HO
  iintro Hres
  rw [Prog.pure_eq_ret]
  iapply (done _ _ _)
  iapply Hret
  isplitl [Hw]; · iexact Hw
  isplitl [Hd]; · iexact Hd
  isplitl [Ho]; · iexact Ho
  isplitl [Hout]; · iexact Hout
  iexact Hres

/-! ## Part 11: the receives of the second exchange, and the first of the last waits -/

theorem out_end : (outRes I c 8 : sProp 𝕄) ⊢ iprop(bigSep (oth c) (fun d => cred (tallyAt (oCell c (k2 d)) () N2)) ∗ ows c 0) := by
  unfold outRes Don
  rw [Rem_done 8 8 le_rfl, Rem_full, debt_none]
  iintro ⟨-, -, H3, H4⟩
  isplitl [H3]; · iexact H3
  iexact H4

theorem mayOwe_none (k : Fin 18) : (levAts L lv : sProp 𝕄) ⊢ MayOwe (c : Thread nD τ) {(osem k, ())} 0 := by
  rw [MayOwe_zero]; iintro -; iempintro

theorem fin_start : iprop(bigSep (oth c) (fun d => cred (tallyAt (oCell c (k1 d)) () N1)) ∗ bigSep (oth c) (fun d => cred (tallyAt (oCell c (k2 d)) () N2))
    ∗ bigSep (oth c) (fun d => iprop(atPos ER (oCell c (k1 d)) 0 ∅ 0 ∗ atPos ER (oCell c (k2 d)) 0 ∅ 0)) ∗ ows c 0) ⊢ (finRes I c 0 : sProp 𝕄) := by
  unfold finRes Don
  rw [Rem_full, Rem_done 0 0 le_rfl, bigSep_empty, bigSep_empty, bigSep_empty,
    bs_sep (oth c) (fun d => cred (tallyAt (oCell c (k1 d)) () N1)) (fun d => cred (tallyAt (oCell c (k2 d)) () N2))]
  iintro ⟨H1, H2, H3, H4⟩
  isplitl [H1 H2]
  · isplitl [H1]; · iexact H1
    iexact H2
  isplitl [H3]; · iexact H3
  isplitr; · iempintro
  isplitr; · iempintro
  isplitr; · iempintro
  iexact H4

theorem part11_wp (Q) :
    iprop((Recs I K ∗ Opn c ∗ levAts L lv) ∗ (outRes I c 7 ∗ bigSep (oth c) (fun _ => cred (tallyAt (oCell c kr1) () N2)) ∗ atPos ER (oCell c kr1) 0 ∅ 0
        ∗ bigSep (oth c) (fun d => cred (tallyAt (oCell c (k1 d)) () N1)) ∗ bigSep (oth c) (fun d => iprop(atPos ER (oCell c (k1 d)) 0 ∅ 0 ∗ atPos ER (oCell c (k2 d)) 0 ∅ 0))
        ∗ outPt c c (outV I))
      ∗ ((outWh c (outV I) ∗ semVal (oCell c kr1) 0 ∗ finRes I c 1) -∗ Q 1#32))
      ⊢ WP c (P11 c (w2 c) 7#32) Q := by
  unfold P11
  rw [k0_part11_eq_skeleton, part11_form]
  iintro ⟨⟨#Hrec, #Hopn, #Hlev⟩, ⟨Hres, Hcr, Hat, Hc1, Hpos, Hout⟩, Hret⟩
  iapply (out_loop I K c _ _ [7] 7 8 ⟨rfl, rfl⟩ le_rfl) $$ [Hres]
  · isplitr
    · isplitr; · iexact Hrec
      iexact Hopn
    iexact Hres
  iintro Hres
  ihave Hres := (out_end I c) $$ Hres
  icases Hres with ⟨Hc2, HO⟩
  iapply (rv1_loop I K c 0 (mayOwe_none c _) _ _ [0, 1, 2, 3, 4, 5, 6, 7] 0 8 ⟨rfl, rfl, rfl, rfl, rfl, rfl, rfl, rfl, rfl⟩ le_rfl) $$ [Hcr Hat HO]
  · isplitr
    · isplitr; · iexact Hrec
      iexact Hlev
    iapply (rv_start c kr1 N2 N2_pos (outPay I c) 0)
    isplitl [Hcr]; · iexact Hcr
    isplitl [Hat]; · iexact Hat
    iexact HO
  iintro Hrv
  imod (rv_done I K c kr1 N2 (outPay I c) 0 (duties_r1 I c) (expect_r1 I c)) $$ [Hrv] with ⟨H0, Hpay, HO⟩
  · isplitr; · iexact Hrec
    iexact Hrv
  ihave Hout := (Entails.of_eq (out_split c (outV I)).symm) $$ [Hout Hpay]
  · isplitl [Hout]; · iexact Hout
    iexact Hpay
  iapply (fin_loop I K c _ _ [0] 0 1 ⟨rfl, rfl⟩ (by omega)) $$ [Hc1 Hc2 Hpos HO]
  · isplitr; · iexact Hrec
    iapply (fin_start I c)
    isplitl [Hc1]; · iexact Hc1
    isplitl [Hc2]; · iexact Hc2
    isplitl [Hpos]; · iexact Hpos
    iexact HO
  iintro Hfin
  rw [Prog.pure_eq_ret]
  iapply (done _ _ _)
  iapply Hret
  isplitl [Hout]; · iexact Hout
  isplitl [H0]; · iexact H0
  iexact Hfin

end Cert.KernelIdeal.Talk
-- ==== Proof.Body.lean ====
/-
  The body, whole: from the staged inputs and the device's place in the
  protocol, to the result and every counter back at zero.
-/
module

public import proofs.«01_k».proof.Proof.Stores

@[expose] public section

set_option maxRecDepth 16384

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.ValueKit

variable {F : FTy → Type} [FloatOps F]

local notation "𝕄" => MT nD τ sig Unit (Elt F) ℕ UU ℕ

variable (I : Ins F) (K : GSem nD τ sig → ℕ) (c : Dev nD)

/-! ## The eighteen copy semaphores -/

theorem k2_inj' {d e : Dev nD} (h : k2 d = k2 e) : d = e := Fin.ext (by
  have := congrArg Fin.val h
  simp only [k2] at this
  omega)

theorem os_univ : (Finset.univ : Finset (Fin 18)) = insert kr0 (insert kr1 (Finset.univ.map ⟨k1, fun _ _ h => k1_inj h⟩ ∪ Finset.univ.map ⟨k2, fun _ _ h => k2_inj' h⟩)) := by
  decide

theorem bs_map {X Y : Type} {S : Finset X} (e : X ↪ Y) (Φ : Y → sProp 𝕄) : bigSep (S.map e) Φ = bigSep S (fun x => Φ (e x)) := bigSep_map e

theorem os_split (Φ : Fin 18 → sProp 𝕄) : bigSep Finset.univ Φ
    = iprop(Φ kr0 ∗ Φ kr1 ∗ (Φ (k1 c) ∗ bigSep (oth c) (fun d => Φ (k1 d))) ∗ (Φ (k2 c) ∗ bigSep (oth c) (fun d => Φ (k2 d)))) := by
  rw [os_univ, bs_insert (by decide), bs_insert (by decide), bs_union (by decide), bs_map, bs_map,
    bs_erase (Finset.mem_univ c), bs_erase (Finset.mem_univ c)]
  rfl

/-! ## Before and after -/

abbrev insPt : sProp 𝕄 := iprop(xPt I c ∗ qPt I c ∗ kPt I c ∗ vPt I c ∗ wPt I c)
/-- What a device needs to take part: its positions, what it owes, and what is promised to it. -/
def tokens : sProp 𝕄 :=
  iprop((atPos ER (barCell c) 0 ∅ 0 ∗ cred (tallyAt (barCell c) () 7) ∗ barTok c)
    ∗ (goTok c ∗ bigSep (oth c) (fun _ => cred (tallyAt (oCell c kr0) () N1)) ∗ bigSep (oth c) (fun _ => cred (tallyAt (oCell c kr1) () N2)))
    ∗ bigSep Finset.univ (fun k : Fin 18 => atPos ER (oCell c k) 0 ∅ 0))

theorem bnd {α β : Type} (p : PROG (F := F) α) (k : α → PROG (F := F) β) (Q : β → sProp 𝕄) : WP c p (fun a => WP c (k a) Q) ⊢ WP c (p >>= k) Q :=
  Entails.of_eq (wp_bind _ _ _ _ _ _).symm

theorem own_closed (k : Fin 18) (hk : (Rd I).duties (oCell c k) 0 = ∅) :
    iprop(Recs I K ∗ atPos ER (oCell c k) 0 ∅ 0) ⊢ (|={Set.univ}=> semVal (oCell c k) 0 : sProp 𝕄) := by
  iintro ⟨#Hrec, Hat⟩
  ihave #Hi := (Recs_o I K c k) $$ Hrec
  iapply (Rounds.cell_close ER (Rd I) (Set.mem_univ (K (oCell c k))) id (R := 0) (fun r _ => by
    rcases Nat.eq_zero_or_pos r with rfl | hr
    · exact hk
    · exact duties_later I (oCell c k) r hr))
  isplitr; · iexact Hi
  iexact Hat

theorem own_s1 : (Rd I).duties (oCell c (k1 c)) 0 = ∅ := by rw [duties_s1, if_pos rfl]
theorem own_s2 : (Rd I).duties (oCell c (k2 c)) 0 = ∅ := by rw [duties_s2, if_pos rfl]

theorem body_wp (Q : PUnit → sProp 𝕄) :
    iprop((Recs I K ∗ Opn c ∗ levAts L lv) ∗ (insPt I c ∗ (∃ f, outWh c f) ∗ (∃ f, ctxWh c f) ∗ (∃ f, rsWh c f) ∗ (∃ f, sbWh c f) ∗ tokens c ∗ ows c (O₀ c))
      ∗ ((insPt I c ∗ outWh c (outV I) ∗ (∃ f, ctxWh c f) ∗ (∃ f, rsWh c f) ∗ (∃ f, sbWh c f)
          ∗ semVal (barCell c) 0 ∗ bigSep Finset.univ (fun k : Fin 18 => semVal (oCell c k) 0) ∗ ows c 0) -∗ Q ⟨⟩))
      ⊢ WP c (cc0_body (F := F) xM (Memref.isWhole_whole _) qM (Memref.isWhole_whole _) kM (Memref.isWhole_whole _) vM (Memref.isWhole_whole _) wM (Memref.isWhole_whole _)
          oM (Memref.isWhole_whole _) ctxM (Memref.isWhole_whole _) rsM (Memref.isWhole_whole _) sbM (Memref.isWhole_whole _) cc0_scratch3 cc0_scratch4) Q := by
  rw [cc0_body_eq_skeleton, body_form]
  unfold tokens
  rw [os_split c (fun k => atPos ER (oCell c k) 0 ∅ 0), os_split c (fun k => semVal (oCell c k) 0)]
  iintro ⟨⟨#Hrec, #Hopn, #Hlev⟩, ⟨⟨Hx, Hq, Hk, Hv, Hw⟩, ⟨%fo, Hout⟩, Hctx, ⟨%fr, Hrs⟩, Hsb, ⟨⟨Hab, Hcb, Htb⟩, ⟨Hgo, Hc0, Hc1⟩, Ha0, Ha1, ⟨Hp1, Hpos1⟩, ⟨Hp2, Hpos2⟩⟩, HO⟩, Hret⟩
  ihave Hout := (Entails.of_eq (out_split c fo)) $$ Hout
  icases Hout with ⟨Hout, Houts⟩
  ihave Hrs := (Entails.of_eq (rs_split c fr)) $$ Hrs
  icases Hrs with ⟨Hrs, Hrss⟩
  iapply (bnd c _ _ _)
  iapply (part1_wp I K c _ fr fo)
  isplitr
  · isplitr; · iexact Hrec
    isplitr; · iexact Hopn
    iexact Hlev
  isplitl [Hab Hcb Htb Hrss Houts HO]
  · isplitl [Hab]; · iexact Hab
    isplitl [Hcb]; · iexact Hcb
    isplitl [Htb]; · iexact Htb
    isplitl [Hrss]; · iexact Hrss
    isplitl [Houts]; · iexact Houts
    iexact HO
  iintro ⟨Hzb, Hpay, HO⟩
  ihave Hgo := (go_open c) $$ [Hgo Hpay]
  · isplitl [Hgo]; · iexact Hgo
    iexact Hpay
  icases Hgo with ⟨Hrsgo, Houtgo⟩
  iapply (bnd c _ _ _)
  iapply (part2_wp I c _)
  isplitl [Hx]; · iexact Hx
  isplitl [Hq]; · iexact Hq
  isplitl [Hk]; · iexact Hk
  isplitl [Hv]; · iexact Hv
  iintro ⟨Hx, Hq, Hk, Hv⟩
  iapply (bnd c _ _ _)
  iapply (part3_wp I c _ _ _ _ _)
  isplitl [Hk]; · iexact Hk
  isplitl [Hv]; · iexact Hv
  iintro ⟨Hk, Hv⟩
  iapply (bnd c _ _ _)
  iapply (part4_wp I K c _ _ _ _ _ rfl _)
  isplitr
  · isplitr; · iexact Hrec
    iexact Hopn
  isplitl [Hx Hq Hctx Hrsgo HO]
  · isplitl [Hx]; · iexact Hx
    isplitl [Hq]; · iexact Hq
    isplitl [Hctx]; · iexact Hctx
    isplitl [Hrsgo]; · iexact Hrsgo
    iexact HO
  iintro ⟨Hx, Hq, Hhi, Hlo, Hres⟩
  iapply (bnd c _ _ _)
  iapply (part5_wp I c _ _ _)
  isplitl [Hk]; · iexact Hk
  isplitl [Hv]; · iexact Hv
  iintro ⟨Hk, Hv⟩
  iapply (bnd c _ _ _)
  iapply (part6_wp I c _ _ _ _ _)
  isplitl [Hk]; · iexact Hk
  isplitl [Hv]; · iexact Hv
  iintro ⟨Hk, Hv⟩
  iapply (bnd c _ _ _)
  iapply (part7_wp I K c _ rfl _)
  isplitr
  · isplitr; · iexact Hrec
    isplitr; · iexact Hopn
    iexact Hlev
  isplitl [Hhi Hlo Hres Hrs Hc0 Ha0]
  · isplitl [Hhi]; · iexact Hhi
    isplitl [Hlo]; · iexact Hlo
    isplitl [Hres]; · iexact Hres
    isplitl [Hrs]; · iexists fr; iexact Hrs
    isplitl [Hc0]; · iexact Hc0
    iexact Ha0
  iintro ⟨Hctx, Hcs1, Hrs, Hrv⟩
  iapply (bnd c _ _ _)
  iapply (part8_wp I K c _)
  isplitr
  · isplitr; · iexact Hrec
    iexact Hlev
  isplitl [Hw Hrs Hrv]
  · isplitl [Hw]; · iexact Hw
    isplitl [Hrs]; · iexact Hrs
    iexact Hrv
  iintro ⟨Hw, Hg, Hz0, HO⟩
  iapply (bnd c _ _ _)
  iapply (part9_wp I c _ _ _)
  isplitl [Hw]; · iexact Hw
  isplitl [Hg]; · iexact Hg
  iintro ⟨Hw, Hg⟩
  iapply (bnd c _ _ _)
  iapply (part10_wp I K c _ _ rfl _)
  isplitr
  · isplitr; · iexact Hrec
    iexact Hopn
  isplitl [Hw Hsb Hout Houtgo HO]
  · isplitl [Hw]; · iexact Hw
    isplitl [Hsb]; · iexact Hsb
    isplitl [Hout]; · iexists fo; iexact Hout
    isplitl [Houtgo]; · iexact Houtgo
    iexact HO
  iintro ⟨Hw, Hsd, Hso, Hout, Hres⟩
  iapply (bnd c _ _ _)
  iapply (part11_wp I K c _)
  isplitr
  · isplitr; · iexact Hrec
    isplitr; · iexact Hopn
    iexact Hlev
  isplitl [Hres Hc1 Ha1 Hcs1 Hpos1 Hpos2 Hout]
  · isplitl [Hres]; · iexact Hres
    isplitl [Hc1]; · iexact Hc1
    isplitl [Ha1]; · iexact Ha1
    isplitl [Hcs1]; · iexact Hcs1
    isplitl [Hpos1 Hpos2]
    · rw [bs_sep]
      isplitl [Hpos1]; · iexact Hpos1
      iexact Hpos2
    iexact Hout
  iintro ⟨Hout, Hz1, Hfin⟩
  iapply (fin_loop I K c _ _ [1, 2, 3, 4, 5, 6, 7] 1 8 ⟨rfl, rfl, rfl, rfl, rfl, rfl, rfl, rfl⟩ le_rfl) $$ [Hfin]
  · isplitr; · iexact Hrec
    iexact Hfin
  unfold finRes Don
  rw [Rem_done 8 8 le_rfl, Rem_full, bs_sep (oth c) (fun d => semVal (oCell c (k1 d)) 0) (fun d => semVal (oCell c (k2 d)) 0)]
  iintro ⟨-, -, ⟨Hz2, Hz3⟩, Hcp, Hsp, HO⟩
  imod (own_closed I K c (k1 c) (own_s1 I c)) $$ [Hp1] with Hz4
  · isplitr; · iexact Hrec
    iexact Hp1
  imod (own_closed I K c (k2 c) (own_s2 I c)) $$ [Hp2] with Hz5
  · isplitr; · iexact Hrec
    iexact Hp2
  ihave Hctx := (Entails.of_eq ((bs_erase (Finset.mem_univ c) (fun d => ctxPt c d (ctxV I c))).symm.trans (ctx_all c (ctxV I c)).symm)) $$ [Hctx Hcp]
  · isplitl [Hctx]; · iexact Hctx
    iexact Hcp
  ihave Hsb := (sb_join c (accV I c)) $$ [Hsd Hso Hsp]
  · isplitl [Hsd]; · iexact Hsd
    isplitl [Hso]; · iexact Hso
    iexact Hsp
  rw [Prog.pure_eq_ret]
  iapply (done _ _ _)
  iapply Hret
  isplitl [Hx Hq Hk Hv Hw]
  · isplitl [Hx]; · iexact Hx
    isplitl [Hq]; · iexact Hq
    isplitl [Hk]; · iexact Hk
    isplitl [Hv]; · iexact Hv
    iexact Hw
  isplitl [Hout]; · iexact Hout
  isplitl [Hctx]; · iexists _; iexact Hctx
  isplitl [Hg]; · iexists _; iexact Hg
  isplitl [Hsb]; · iexists _; iexact Hsb
  isplitl [Hzb]; · iexact Hzb
  isplitl [Hz0 Hz1 Hz2 Hz3 Hz4 Hz5]
  · isplitl [Hz0]; · iexact Hz0
    isplitl [Hz1]; · iexact Hz1
    isplitl [Hz4 Hz2]
    · isplitl [Hz4]; · iexact Hz4
      iexact Hz2
    isplitl [Hz5]; · iexact Hz5
    iexact Hz3
  iexact HO

end Cert.KernelIdeal.Talk
-- ==== Proof.Region.lean ====
/-
  The call as a region of the program: what it is given, its one point, what it leaves.
-/
module

public import proofs.«01_k».proof.Proof.Body
public import proofs.«01_k».proof.Proof.Gen.KernelIdeal.Regions
public import proofs.«01_k».proof.Proof.Gen.KernelIdeal.Points
public import Idealize.ShloMosaic.Lib.Pipeline.RegionTalk

@[expose] public section

set_option maxRecDepth 16384

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.ValueKit

variable {F : FTy → Type} [FloatOps F]

local notation "𝕄" => MT nD τ sig Unit (Elt F) ℕ UU ℕ

variable (m : (ℓ : Loc nD τ sig) → Buf (Elt F) ℓ) (c : Dev nD)

/-! ## What the region reads and what it leaves -/

/-- The arrays the call is given, on every device. -/
def insOf : Ins F where
  x c := V1 m c main_arg0
  q c := V1 m c main_v9
  k c := V1 m c main_arg2
  v c := V1 m c main_arg3
  w c := V1 m c main_arg4

/-- The buffers after the call: the result's array at the gathered rows. -/
def outs : Outs (F := F) := fun _ r c =>
  (Function.update (V1 m c) (Proc.devRef .tc main_v10) (outV (insOf m)) : Valuation τ sig (Elt F)) (Proc.devRef .tc r)

theorem outs_v10 (n : ℕ) : outs m n main_v10 c = outV (insOf m) := by
  unfold outs; exact Function.update_self _ _ _
theorem V2_v10 : V2 m (outs m) c main_v10 = outV (insOf m) := (Function.update_self _ _ _).trans (outs_v10 m c 2)

/-! ## The region's proof data -/

/-- The three scratch buffers, at contents not chosen. -/
def scr : sProp 𝕄 := iprop((∃ f, ctxWh c f) ∗ (∃ f, rsWh c f) ∗ (∃ f, sbWh c f))
/-- What the device takes part with, every copy cell open. -/
def Xk : sProp 𝕄 := iprop((∃ K, Recs (insOf m) K) ∗ Opn c ∗ levAts L lv ∗ tokens c)
/-- Every copy cell's counter at zero. -/
def zeros : sProp 𝕄 := bigSep Finset.univ (fun k : Fin 18 => semVal (oCell c k) 0)

def dat : Pipeline.Dat τ (Elt F) Unit ℕ UU ℕ cfg0 c where
  A w := match w with
    | 0 => V1 m c main_arg0
    | 1 => V1 m c main_v9
    | 2 => V1 m c main_arg2
    | 3 => V1 m c main_arg3
    | 4 => V1 m c main_arg4
    | 5 => V1 m c main_v10
    | ⟨_ + 6, h⟩ => absurd h (Nat.not_lt.2 (Nat.le_add_left _ _))
  after w _ := match w with
    | 0 => (insOf m).x c
    | 1 => (insOf m).q c
    | 2 => (insOf m).k c
    | 3 => (insOf m).v c
    | 4 => (insOf m).w c
    | 5 => outV (insOf m)
    | ⟨_ + 6, h⟩ => absurd h (Nat.not_lt.2 (Nat.le_add_left _ _))
  Φ t := if t.val = 0 then iprop(Xk m c ∗ scr c ∗ ∃ r, prngReg c r)
    else iprop(semVal (barCell c) 0 ∗ zeros c ∗ scr c ∗ ∃ r, prngReg c r)
  q _ := fullShare
  owed t := if t.val = 0 then O₀ c else 0

def pdats : (p : Fin 1) → (c : Dev nD) → Pipeline.Dat τ (Elt F) Unit ℕ UU ℕ (Pipeline.pin (pcfgs (F := F)) adm p) c
  | 0 => dat m

theorem owed_zero : (pdats m 0 c).owed 0 = O₀ c := by
  show (if ((0 : Fin (cfg0.N + 1)).val = 0) then O₀ c else 0) = O₀ c; exact if_pos rfl
theorem owed_first : (dat m c).owed t0_0.castSucc = O₀ c := by
  show (if (t0_0.castSucc : Fin (cfg0.N + 1)).val = 0 then O₀ c else 0) = O₀ c; exact if_pos rfl
theorem owed_last : (pdats m 0 c).owed (Fin.last _) = 0 := by
  show (if (Fin.last cfg0.N).val = 0 then O₀ c else 0) = 0
  rw [Fin.val_last, if_neg (by rw [show cfg0.N = 1 from N_0]; decide)]

theorem owes_in {cfg : Pipeline.Cfg sig Λ₀} (dat : Pipeline.Dat τ (Elt F) Unit ℕ UU ℕ cfg c) (t : Fin (cfg.N + 1))
    (O : CellTallies nD τ sig Unit) (h0 : dat.owed t = O) (hr : dat.recorded t = Set.univ) : (ows c O : sProp 𝕄) ⊢ (dat.owesAt () t : sProp 𝕄) := by
  unfold ows Pipeline.Dat.owesAt Pipeline.owesWithin Pipeline.Dat.bound; rw [h0, hr]
  iintro ⟨%W, HO⟩; iexists W; isplitr; · ipureintro; exact fun _ _ => Or.inl trivial
  iexact HO
theorem owes_out {cfg : Pipeline.Cfg sig Λ₀} (dat : Pipeline.Dat τ (Elt F) Unit ℕ UU ℕ cfg c) (t : Fin (cfg.N + 1))
    (O : CellTallies nD τ sig Unit) (h0 : dat.owed t = O) : (dat.owesAt () t : sProp 𝕄) ⊢ (ows c O : sProp 𝕄) := by
  unfold ows Pipeline.Dat.owesAt Pipeline.owesWithin; rw [h0]
  iintro ⟨%W, -, HO⟩; iexists W; iexact HO

/-! The fetched arrays: each window's one block is its whole array. -/

theorem before_0 (d) : (dat m c).before 0 t0_0 d = (insOf m).x c := by
  unfold Pipeline.Dat.before; rw [if_pos (fetch0_0 t0_0)]
  show (fun i => V1 m c main_arg0 (((cfg0.win 0).rect t0_0).emb i)) = _
  funext i
  refine congrArg (V1 m c main_arg0) (funext fun a => Fin.ext ?_)
  exact Pipeline.Window.rect_emb_val_of_index_zero (cfg0.win 0) t0_0 a rfl i
theorem before_1 (d) : (dat m c).before 1 t0_0 d = (insOf m).q c := by
  unfold Pipeline.Dat.before; rw [if_pos (fetch0_1 t0_0)]
  show (fun i => V1 m c main_v9 (((cfg0.win 1).rect t0_0).emb i)) = _
  funext i
  refine congrArg (V1 m c main_v9) (funext fun a => Fin.ext ?_)
  exact Pipeline.Window.rect_emb_val_of_index_zero (cfg0.win 1) t0_0 a rfl i
theorem before_2 (d) : (dat m c).before 2 t0_0 d = (insOf m).k c := by
  unfold Pipeline.Dat.before; rw [if_pos (fetch0_2 t0_0)]
  show (fun i => V1 m c main_arg2 (((cfg0.win 2).rect t0_0).emb i)) = _
  funext i
  refine congrArg (V1 m c main_arg2) (funext fun a => Fin.ext ?_)
  exact Pipeline.Window.rect_emb_val_of_index_zero (cfg0.win 2) t0_0 a rfl i
theorem before_3 (d) : (dat m c).before 3 t0_0 d = (insOf m).v c := by
  unfold Pipeline.Dat.before; rw [if_pos (fetch0_3 t0_0)]
  show (fun i => V1 m c main_arg3 (((cfg0.win 3).rect t0_0).emb i)) = _
  funext i
  refine congrArg (V1 m c main_arg3) (funext fun a => Fin.ext ?_)
  exact Pipeline.Window.rect_emb_val_of_index_zero (cfg0.win 3) t0_0 a rfl i
theorem before_4 (d) : (dat m c).before 4 t0_0 d = (insOf m).w c := by
  unfold Pipeline.Dat.before; rw [if_pos (fetch0_4 t0_0)]
  show (fun i => V1 m c main_arg4 (((cfg0.win 4).rect t0_0).emb i)) = _
  funext i
  refine congrArg (V1 m c main_arg4) (funext fun a => Fin.ext ?_)
  exact Pipeline.Window.rect_emb_val_of_index_zero (cfg0.win 4) t0_0 a rfl i

theorem arr_last : (dat m c).arrAt 5 cfg0.N = outV (insOf m) :=
  (dat m c).arrAt_eq_of_after_last 5 t0_0 (by decide +kernel) _ (fun _ => rfl)

theorem own_out (b : Ref sig .tc) (X : b.ty.Contents (Elt F)) :
    (owns (c : Thread nD τ) (Memref.whole b) fullShare X : sProp 𝕄) ⊢ (((c : Thread nD τ).loc b) ↦{fullShare} X) := by
  rw [owns_whole_eq]
  iintro ⟨%f, %hf, H⟩
  rw [hf]; iexact H
theorem own_in (b : Ref sig .tc) (X : b.ty.Contents (Elt F)) :
    ((((c : Thread nD τ).loc b) ↦{fullShare} X) : sProp 𝕄) ⊢ owns (c : Thread nD τ) (Memref.whole b) fullShare X := by
  rw [owns_whole_eq]
  iintro H
  iexists X
  isplitr; · ipureintro; rfl
  iexact H

theorem body_obligation : Pipeline.BodyObligation (dat m c) defs₀ 𝒱₀ () Set.univ := fun t => by
  obtain rfl := fin_N0 t
  rw [bigSep_W0, bigSep_W0]
  rw [show (dat m c).Φ t0_0.castSucc = iprop(Xk m c ∗ scr c ∗ ∃ r, prngReg c r) from rfl,
    show (dat m c).Φ t0_0.succ = iprop(semVal (barCell c) 0 ∗ zeros c ∗ scr c ∗ ∃ r, prngReg c r) from rfl]
  iintro ⟨⟨HX, Hscr, Hreg⟩, HO, ⟨%d0, H0⟩, ⟨%d1, H1⟩, ⟨%d2, H2⟩, ⟨%d3, H3⟩, ⟨%d4, H4⟩, ⟨%d5, H5⟩⟩
  ihave HO := (owes_out c (dat m c) _ (O₀ c) (owed_first m c)) $$ HO
  unfold Xk scr
  icases HX with ⟨⟨%K, #Hrec⟩, #Hopn, #Hlev, Htok⟩
  icases Hscr with ⟨Hctx, Hrs, Hsb⟩
  rw [before_0, before_1, before_2, before_3, before_4]
  iapply (body_wp (insOf m) K c _)
  isplitr
  · isplitr; · iexact Hrec
    isplitr; · iexact Hopn
    iexact Hlev
  isplitr [Hreg]
  · isplitl [H0 H1 H2 H3 H4]
    · isplitl [H0]; · iapply (own_out c _ _) $$ H0
      isplitl [H1]; · iapply (own_out c _ _) $$ H1
      isplitl [H2]; · iapply (own_out c _ _) $$ H2
      isplitl [H3]; · iapply (own_out c _ _) $$ H3
      iapply (own_out c _ _) $$ H4
    isplitl [H5]
    · iexists _; iapply (own_out c _ _) $$ H5
    isplitl [Hctx]; · iexact Hctx
    isplitl [Hrs]; · iexact Hrs
    isplitl [Hsb]; · iexact Hsb
    isplitl [Htok]; · iexact Htok
    iexact HO
  iintro ⟨⟨H0, H1, H2, H3, H4⟩, H5, Hctx, Hrs, Hsb, Hb, Hz, HO⟩
  isplitl [Hreg Hctx Hrs Hsb Hb Hz]
  · isplitl [Hb]; · iexact Hb
    isplitl [Hz]; · unfold zeros; iexact Hz
    isplitl [Hctx Hrs Hsb]
    · isplitl [Hctx]; · iexact Hctx
      isplitl [Hrs]; · iexact Hrs
      iexact Hsb
    iexact Hreg
  isplitl [HO]; · iapply (owes_in c (dat m c) t0_0.succ 0 (owed_last m c) rfl) $$ HO
  isplitl [H0]; · iapply (own_in c _ _) $$ H0
  isplitl [H1]; · iapply (own_in c _ _) $$ H1
  isplitl [H2]; · iapply (own_in c _ _) $$ H2
  isplitl [H3]; · iapply (own_in c _ _) $$ H3
  isplitl [H4]; · iapply (own_in c _ _) $$ H4
  iapply (own_in c _ _) $$ H5

end Cert.KernelIdeal.Talk

end
-- ==== Proof.Deal.lean ====
/-
  The launch: the cells, the tokens and the credit of the whole machine, dealt to the devices.
-/
module

public import proofs.«01_k».proof.Proof.Region
public import Idealize.SL.ProofMode.BigOp

@[expose] public section

set_option maxRecDepth 16384

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.ValueKit

variable {F : FTy → Type} [FloatOps F]

local notation "𝕄" => MT nD τ sig Unit (Elt F) ℕ UU ℕ

variable (I : Ins F) (K : GSem nD τ sig → ℕ) (c : Dev nD)

/-! ## Opening the copy cells -/

/-- What the launch leaves with a device: its position at its barrier, the credit promised it, the tokens it pays with, and the right to open its copy cells. -/
def start : sProp 𝕄 :=
  iprop((atPos ER (barCell c) 0 ∅ 0 ∗ cred (tallyAt (barCell c) () 7) ∗ barTok c)
    ∗ (goTok c ∗ bigSep (oth c) (fun _ => cred (tallyAt (oCell c kr0) () N1)) ∗ bigSep (oth c) (fun _ => cred (tallyAt (oCell c kr1) () N2)))
    ∗ bigSep Finset.univ (fun k : Fin 18 => openTok ER (oCell c k)))

theorem open_one (k : Fin 18) : iprop(Recs I K ∗ (openTok ER (oCell c k) ∗ semVal (oCell c k) 0))
    ⊢ (|={Set.univ}=> iprop(atPos ER (oCell c k) 0 ∅ 0 ∗ reached ER (oCell c k) 0) : sProp 𝕄) := by
  iintro ⟨#Hrec, Ho, Hv⟩
  ihave #Hi := (Recs_o I K c k) $$ Hrec
  iapply (Rounds.cell_open ER (Rd I) (Set.mem_univ (K (oCell c k))))
  isplitr; · iexact Hi
  isplitl [Ho]; · iexact Ho
  iexact Hv

theorem open_each : iprop(Recs I K ∗ bigSep Finset.univ (fun k : Fin 18 => iprop(openTok ER (oCell c k) ∗ semVal (oCell c k) 0)))
    ⊢ (bigSep Finset.univ (fun k : Fin 18 => iprop(|={Set.univ}=> iprop(atPos ER (oCell c k) 0 ∅ 0 ∗ reached ER (oCell c k) 0))) : sProp 𝕄) :=
  bigSep_with_persistent (R := Recs I K) fun k _ => open_one I K c k

theorem open_all : iprop(Recs I K ∗ bigSep Finset.univ (fun k : Fin 18 => openTok ER (oCell c k)) ∗ bigSep Finset.univ (fun k : Fin 18 => semVal (oCell c k) 0))
    ⊢ (|={Set.univ}=> iprop(bigSep Finset.univ (fun k : Fin 18 => atPos ER (oCell c k) 0 ∅ 0) ∗ Opn c) : sProp 𝕄) := by
  unfold Opn
  rw [← bigSep_sep', ← bigSep_sep']
  exact (open_each I K c).trans (bigSep_fupd _ _)

/-! ## The credit -/

theorem due_hit (g : Dev nD → GSem nD τ sig) (hg : Function.Injective g) (n : ℕ) (S : Finset (Dev nD)) : due g n S (g c) () = if c ∈ S then n else 0 := by
  induction S using Finset.induction_on with
  | empty => rfl
  | insert d S hd ih =>
    rw [due_insert g n hd, Pi.add_apply, Finsupp.add_apply, tallyAt_apply, ih]
    by_cases h : c = d
    · subst h; rw [if_pos ⟨rfl, rfl⟩, if_neg hd, if_pos (Finset.mem_insert_self _ _)]; rfl
    · rw [if_neg (fun hh => h (hg hh.1)), Nat.zero_add]
      exact if_congr (by rw [Finset.mem_insert]; exact ⟨.inr, fun hh => hh.resolve_left h⟩) rfl rfl
theorem due_miss (g : Dev nD → GSem nD τ sig) (n : ℕ) (S : Finset (Dev nD)) (h : GSem nD τ sig) (hn : ∀ d, h ≠ g d) : due g n S h () = 0 :=
  Nat.eq_zero_of_not_pos fun hp => by obtain ⟨d, -, hd⟩ := due_pos g n S h hp; exact hn d hd

theorem barCell_inj : Function.Injective (barCell : Dev nD → GSem nD τ sig) := fun _ _ h => congrArg (fun g : GSem nD τ sig => g.1.1) h
theorem oCell_inj (k : Fin 18) : Function.Injective (fun d : Dev nD => oCell d k) := fun _ _ h => congrArg (fun g : GSem nD τ sig => g.1.1) h
theorem bar_ne_o (k : Fin 18) (d : Dev nD) : barCell c ≠ oCell d k := fun h => osem_ne_bar k (congrArg Prod.snd h).symm
theorem o_ne_o {k k' : Fin 18} (hk : k ≠ k') (d : Dev nD) : oCell c k ≠ oCell d k' := fun h => hk (osem_inj (congrArg Prod.snd h))

theorem owed_bar (d : Dev nD) : O₀ d (barCell c) () = if c ∈ Finset.univ.erase d then 1 else 0 := by
  unfold O₀ debt
  rw [Pi.add_apply, Finsupp.add_apply, Pi.add_apply, Finsupp.add_apply, due_hit c _ barCell_inj, due_miss _ _ _ _ (bar_ne_o c kr0),
    due_miss _ _ _ _ (bar_ne_o c kr1), Nat.add_zero]
theorem owed_r0 (d : Dev nD) : O₀ d (oCell c kr0) () = if c ∈ Finset.univ.erase d then N1 else 0 := by
  unfold O₀ debt
  rw [Pi.add_apply, Finsupp.add_apply, Pi.add_apply, Finsupp.add_apply, due_hit c r0Cell (oCell_inj kr0), due_miss _ _ _ _ (fun d => (bar_ne_o d kr0 c).symm),
    due_miss _ _ _ _ (o_ne_o c (by decide)), Nat.zero_add, Nat.add_zero]
theorem owed_r1 (d : Dev nD) : O₀ d (oCell c kr1) () = if c ∈ Finset.univ.erase d then N2 else 0 := by
  unfold O₀ debt
  rw [Pi.add_apply, Finsupp.add_apply, Pi.add_apply, Finsupp.add_apply, due_hit c r1Cell (oCell_inj kr1), due_miss _ _ _ _ (fun d => (bar_ne_o d kr1 c).symm),
    due_miss _ _ _ _ (o_ne_o c (by decide)), Nat.zero_add, Nat.zero_add]

theorem sum_others (n : ℕ) : (∑ d : Dev nD, if c ∈ Finset.univ.erase d then n else 0) = 7 * n := by
  rw [← Finset.sum_filter, Finset.sum_const, smul_eq_mul]
  refine congrArg (· * n) ?_
  revert c; decide

theorem launch_cell (g : GSem nD τ sig) (n : ℕ) (h : ∀ d, O₀ d g () = if c ∈ Finset.univ.erase d then n else 0) :
    tallyOn g (launchCredit (Pipeline.owing O₀) 0 g) = (tallyAt g () (7 * n) : CellTallies nD τ sig Unit) := by
  unfold tallyAt; refine congrArg _ (Finsupp.ext fun u => ?_); cases u
  rw [Pipeline.launchCredit_owing, Finsupp.single_eq_same, Finset.sum_congr rfl fun d _ => h d, sum_others]

theorem cred_split (g : GSem nD τ sig) (n : ℕ) (S : Finset (Dev nD)) :
    (cred (tallyAt g () (S.card * n)) : sProp 𝕄) ⊢ bigSep S (fun _ => cred (tallyAt g () n)) := by
  induction S using Finset.induction_on with
  | empty =>
    rw [bigSep_empty]
    iintro -; iempintro
  | insert d S hd ih =>
    rw [Finset.card_insert_of_notMem hd, Nat.succ_mul, Nat.add_comm, ← tallyAt_add, bs_insert hd]
    exact (cred_add _ _).1.trans (sep_mono .rfl ih)

theorem creds : (Pipeline.launchCred O₀ c : sProp 𝕄) ⊢ iprop(cred (tallyAt (barCell c) () 7)
    ∗ bigSep (oth c) (fun _ => cred (tallyAt (oCell c kr0) () N1)) ∗ bigSep (oth c) (fun _ => cred (tallyAt (oCell c kr1) () N2))) := by
  unfold Pipeline.launchCred
  rw [bs_erase (Finset.mem_univ (SemLoc.reg barS)),
    bs_erase (S := Finset.univ.erase (SemLoc.reg barS)) (x := osem kr0) (Finset.mem_erase.mpr ⟨osem_ne_bar _, Finset.mem_univ _⟩),
    bs_erase (S := (Finset.univ.erase (SemLoc.reg barS)).erase (osem kr0)) (x := osem kr1)
      (Finset.mem_erase.mpr ⟨fun h => absurd (osem_inj h) (by decide), Finset.mem_erase.mpr ⟨osem_ne_bar _, Finset.mem_univ _⟩⟩),
    launch_cell c (barCell c) 1 (owed_bar c), launch_cell c (oCell c kr0) N1 (owed_r0 c), launch_cell c (oCell c kr1) N2 (owed_r1 c)]
  iintro ⟨Hb, H0, H1, -⟩
  isplitl [Hb]; · iexact Hb
  isplitl [H0]
  · iapply (cred_split (oCell c kr0) N1 (oth c)); rw [card_oth]; iexact H0
  · iapply (cred_split (oCell c kr1) N2 (oth c)); rw [card_oth]; iexact H1

/-! ## The cells and the tokens of the whole machine -/

def barEmb : Dev nD ↪ GSem nD τ sig := ⟨barCell, barCell_inj⟩
def scEmb : Dev nD × Fin 18 ↪ GSem nD τ sig := ⟨fun p => oCell p.1 p.2, fun _ _ h =>
  Prod.ext (congrArg (fun g : GSem nD τ sig => g.1.1) h) (osem_inj (congrArg Prod.snd h))⟩
abbrev barCells : Finset (GSem nD τ sig) := Finset.univ.map barEmb
abbrev scCells : Finset (GSem nD τ sig) := Finset.univ.map scEmb
theorem disjoint_cells : Disjoint (barCells : Finset (GSem nD τ sig)) scCells := by
  rw [Finset.disjoint_left]
  rintro g h₁ h₂
  obtain ⟨c, -, rfl⟩ := Finset.mem_map.mp h₁
  obtain ⟨p, -, h⟩ := Finset.mem_map.mp h₂
  exact osem_ne_bar p.2 (congrArg Prod.snd h)

/-- The five counters of a device that a pair of devices uses. -/
def tsem (k : Fin 5) (d : Dev nD) : SemLoc sig := match k with
  | 0 => .reg barS | 1 => osem kr0 | 2 => osem kr1 | 3 => osem (k1 d) | 4 => osem (k2 d)
theorem tsem_inj : ∀ (d : Dev nD) (k k' : Fin 5), tsem k d = tsem k' d → k = k' := by decide
def talkToks : Finset (GSem nD τ sig × ℕ × Dev nD) :=
  Finset.univ.map ⟨fun p : Dev nD × Dev nD × Fin 5 => (((p.1 : Thread nD τ), tsem p.2.2 p.2.1), 0, p.2.1), fun p p' h => by
    have h1 : p.1 = p'.1 := congrArg (fun t : GSem nD τ sig × ℕ × Dev nD => t.1.1.1) h
    have h2 : p.2.1 = p'.2.1 := congrArg (fun t : GSem nD τ sig × ℕ × Dev nD => t.2.2) h
    have h3 : tsem p.2.2 p.2.1 = tsem p'.2.2 p'.2.1 := congrArg (fun t : GSem nD τ sig × ℕ × Dev nD => t.1.2) h
    rw [← h2] at h3
    exact Prod.ext h1 (Prod.ext h2 (tsem_inj _ _ _ h3))⟩

theorem bs_fin5 (Φ : Fin 5 → sProp 𝕄) : bigSep Finset.univ Φ = iprop(Φ 0 ∗ Φ 1 ∗ Φ 2 ∗ Φ 3 ∗ Φ 4) :=
  bigSep_univ_eq_bigSepL [(0 : Fin 5), (1 : Fin 5), (2 : Fin 5), (3 : Fin 5), (4 : Fin 5)] (by decide) (by decide) Φ

theorem toks_eq : bigSep talkToks (fun x => (dutyTok ER x.1 x.2.1 x.2.2 : sProp 𝕄))
    = bigSep Finset.univ fun g : Dev nD => bigSep Finset.univ fun d : Dev nD =>
      iprop(dutyTok ER (barCell g) 0 d ∗ dutyTok ER (r0Cell g) 0 d ∗ dutyTok ER (r1Cell g) 0 d ∗ dutyTok ER (oCell g (k1 d)) 0 d ∗ dutyTok ER (oCell g (k2 d)) 0 d) := by
  unfold talkToks; rw [bigSep_map, bigSep_univ_prod]
  refine bigSep_congr fun g _ => ?_
  rw [bigSep_univ_prod]
  exact bigSep_congr fun d _ => bs_fin5 _

theorem deal_one : (bigSep Finset.univ fun d : Dev nD => iprop(dutyTok ER (barCell d) 0 c
      ∗ ((dutyTok ER (r0Cell d) 0 c ∗ dutyTok ER (oCell c (k1 d)) 0 d) ∗ (dutyTok ER (r1Cell d) 0 c ∗ dutyTok ER (oCell c (k2 d)) 0 d))) : sProp 𝕄)
    ⊢ iprop(barTok c ∗ goTok c) :=
  (bigSep_subset (Finset.subset_univ (oth c))).trans (Entails.of_eq (bigSep_sep' _ _ _))

/-- Every token with the device that pays with it. -/
theorem toks_deal : bigSep talkToks (fun x => (dutyTok ER x.1 x.2.1 x.2.2 : sProp 𝕄))
    ⊢ bigSep Finset.univ fun c : Dev nD => iprop(barTok c ∗ goTok c) := by
  refine BIBase.Entails.trans ?_ (bigSep_mono fun c _ => deal_one c)
  rw [toks_eq]
  simp only [bigSep_sep']
  rw [bigSep_univ_comm (fun g d : Dev nD => (dutyTok ER (barCell g) 0 d : sProp 𝕄)), bigSep_univ_comm (fun g d : Dev nD => (dutyTok ER (r0Cell g) 0 d : sProp 𝕄)),
    bigSep_univ_comm (fun g d : Dev nD => (dutyTok ER (r1Cell g) 0 d : sProp 𝕄))]
  iintro ⟨Hb, H0, H1, Hs, Ht⟩
  isplitl [Hb]; · iexact Hb
  isplitl [H0 Hs]
  · isplitl [H0]; · iexact H0
    iexact Hs
  isplitl [H1]; · iexact H1
  iexact Ht

/-- The records, from the invariants under one map of names. -/
theorem recs_intro (κ : GSem nD τ sig → ℕ) :
    iprop(bigSep (barCells ∪ scCells) (fun g => cellInv ER (Rd I) (κ g) g) ∗ bigSep barCells (fun g => reached ER g 0)) ⊢ (Recs I κ : sProp 𝕄) := by
  unfold Recs
  rw [bs_union disjoint_cells, bs_map, bs_map, bs_map, bigSep_sep']
  iintro ⟨⟨Hb, Ho⟩, Hr⟩
  isplitl [Ho]; · iexact Ho
  isplitl [Hb]; · iexact Hb
  iexact Hr

end Cert.KernelIdeal.Talk

end
-- ==== Proof.Run.lean ====
/-
  The run: the whole program on the eight devices.
-/
module

public import proofs.«01_k».proof.Proof.Deal

@[expose] public section

set_option maxRecDepth 16384

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.ValueKit

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## The region -/

theorem own_zeros : (Pipeline.ownSems0 osem c : sProp 𝕄) = zeros c := rfl
theorem rest_eq : (Pipeline.scopedRest (Ix := Unit) (Name := ℕ) (U := UU) (Lvl := ℕ) (Val := Elt F) (Pipeline.pin (pcfgs (F := F)) adm 0).spec c : sProp 𝕄) = scr c :=
  scopedRest0_eq c

def Tk : sProp 𝕄 := iprop((∃ K, Recs (insOf m) K) ∗ start c)
def Yk : sProp 𝕄 := semVal (barCell c) 0

theorem hopen : iprop(Tk m c ∗ Pipeline.ownSems0 osem c ∗ levAts L lv) ⊢ (|={Set.univ}=> Xk m c : sProp 𝕄) := by
  rw [own_zeros]
  unfold Tk Xk start zeros tokens
  iintro ⟨⟨⟨%K, #Hrec⟩, H1, H2, Hop⟩, Hz, #Hlev⟩
  imod (open_all (insOf m) K c) $$ [Hop Hz] with ⟨Hat, #Hopn⟩
  · isplitr; · iexact Hrec
    isplitl [Hop]; · iexact Hop
    iexact Hz
  imodintro
  isplitr; · iexists K; iexact Hrec
  isplitr; · iexact Hopn
  isplitr; · iexact Hlev
  isplitl [H1]; · iexact H1
  isplitl [H2]; · iexact H2
  iexact Hat

theorem held_none (W : Valuation τ sig (Elt F)) : (StableHlo.held (c.tc : Thread nD τ) ∅ W : sProp 𝕄) = iprop(emp) := bigSep_empty

theorem hin : iprop(Pipeline.scopedRest (Pipeline.pin (pcfgs (F := F)) adm 0).spec c ∗ (∃ r, prngReg c r) ∗ StableHlo.held (c.tc : Thread nD τ) ∅ (V1 m c) ∗ Xk m c)
    ⊢ (pdats m 0 c).Φ 0 := by
  rw [show (pdats m 0 c).Φ 0 = iprop(Xk m c ∗ scr c ∗ ∃ r, prngReg c r) from rfl, rest_eq]
  iintro ⟨Hs, Hp, -, HX⟩
  isplitl [HX]; · iexact HX
  isplitl [Hs]; · iexact Hs
  iexact Hp

theorem hout : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V2 m (outs m) c) ∗ Pipeline.ownSems0 osem c ∗ Yk c) := by
  rw [show (pdats m 0 c).Φ (Fin.last _) = iprop(semVal (barCell c) 0 ∗ zeros c ∗ scr c ∗ ∃ r, prngReg c r) from rfl, own_zeros, rest_eq, held_none]
  unfold Yk
  iintro ⟨Hb, Hz, Hs, Hp⟩
  isplitl [Hs]; · iexact Hs
  isplitl [Hp]; · iexact Hp
  isplitr; · iempintro
  isplitl [Hz]; · iexact Hz
  iexact Hb

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem stage_low : ∀ (w : Fin 6) (s : Fin (win0 w).nbuf), SemLoc.dma ((win0 w).sem s) ≠ .reg barS ∧ SemLoc.dma ((win0 w).sem s) ≠ osem kr0 ∧ SemLoc.dma ((win0 w).sem s) ≠ osem kr1 := by
  decide

theorem cut (t : Fin ((Pipeline.pin (pcfgs (F := F)) adm 0).N + 1)) (g : GSem nD τ sig) (i : Unit) (h : 0 < (pdats m 0 c).owed t g i) :
    i ∈ L g ∧ (0 : ℕ) < lv g i := by
  rw [show (pdats m 0 c).owed t = if t.val = 0 then O₀ c else 0 from rfl] at h
  split at h
  · exact ⟨debt_L _ _ _ g i h, debt_lv _ _ _ g i h⟩
  · exact absurd h (Nat.lt_irrefl 0)

/-- The unscoped buffers the call is not given. -/
abbrev rest : Finset (DevRef τ sig) := Pipeline.ucRefs τ sig \ Pipeline.arrRefs (τ := τ) (pcfgs (F := F) 0).spec

theorem arrs_sub : Pipeline.arrRefs (τ := τ) (pcfgs (F := F) 0).spec ⊆ Pipeline.ucRefs τ sig :=
  Pipeline.arrRefs_sub_ucRefs _ winFacts0.arr_unscoped

theorem v10_mem : (Proc.devRef .tc main_v10 : DevRef τ sig) ∈ Pipeline.arrRefs (τ := τ) (pcfgs (F := F) 0).spec :=
  Finset.mem_map_of_mem _ (Finset.mem_image_of_mem _ (Finset.mem_univ (5 : Fin 6)))

theorem arr_in (w : Fin 6) : (pdats m 0 c).arrAt w 0 = V1 m c (Proc.devRef .tc (Pipeline.arrRef (Pipeline.pin (pcfgs (F := F)) adm 0).spec w)) := by
  fin_cases w <;> rfl
theorem arr_out (w : Fin 6) : (pdats m 0 c).arrAt w (Pipeline.pin (pcfgs (F := F)) adm 0).N
    = V2 m (outs m) c (Proc.devRef .tc (Pipeline.arrRef (Pipeline.pin (pcfgs (F := F)) adm 0).spec w)) := by
  fin_cases w
  · exact ((dat m c).arrAt_in 0 rfl _).trans (V2_of m (outs m) c main_arg0 (by decide)).symm
  · exact ((dat m c).arrAt_in 1 rfl _).trans (V2_of m (outs m) c main_v9 (by decide)).symm
  · exact ((dat m c).arrAt_in 2 rfl _).trans (V2_of m (outs m) c main_arg2 (by decide)).symm
  · exact ((dat m c).arrAt_in 3 rfl _).trans (V2_of m (outs m) c main_arg3 (by decide)).symm
  · exact ((dat m c).arrAt_in 4 rfl _).trans (V2_of m (outs m) c main_arg4 (by decide)).symm
  · exact (arr_last m c).trans (V2_v10 m c).symm

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ (rest (F := F)) (Finset.empty_subset _) kit rfl (fun c => (body_obligation m c).loose)
    (fun _ => 0) O₀ (fun c => (owed_zero m c).trans (zero_add _).symm) (owed_last m) (fun _ => rfl) (fun _ w => by unfold Pipeline.Dat.share; exact ite_self _)
    (fun c => V1 m c) (fun c => V2 m (outs m) c)
    (fun c b hb => Function.update_of_ne (fun e => (Finset.mem_sdiff.mp (Finset.mem_sdiff.mp hb).1).2 (by rw [e]; exact v10_mem)) _ _)
    (Tk m) Yk (Xk m) Yk (hopen m) (hin m) (hout m)
    (fun c => by iintro H; imodintro; iexact H)
    (fun _ => 0)
    ⟨fun c w s => by rw [L_tc]; exact Finset.mem_singleton_self _,
      fun c w s => by
        obtain ⟨h1, h2, h3⟩ := stage_low w s
        dsimp only [lv]; rw [if_neg h1, if_neg h2, if_neg h3],
      fun c t g i h => cut m c t g i h⟩
    (fun _ => iprop(emp))
    (arr_in m) (arr_out m)

/-! ## The program around it -/

def E (i : Fin 2) (c : Dev nD) : sProp 𝕄 := match i with
  | 0 => iprop(Tk m c ∗ (∃ r, prngReg c r) ∗ ows c (O₀ c))
  | 1 => iprop(semVal (barCell c) 0 ∗ ows c 0)

theorem reg_pre : iprop(StableHlo.held (c : Thread nD τ) (Pipeline.ucRefs τ sig) (V1 m c) ∗ E m 0 c) ⊢ (reg m).pre c := by
  show _ ⊢ iprop(StableHlo.held (c.tc : Thread nD τ) (Pipeline.arrRefs (τ := τ) (pcfgs (F := F) 0).spec) (V1 m c) ∗ (∃ r, prngReg c r)
    ∗ (StableHlo.held (c.tc : Thread nD τ) (rest (F := F)) (V1 m c) ∗ emp) ∗ Tk m c ∗ ∃ Wd, owes (c : Thread nD τ) (0 + O₀ c) Wd)
  rw [zero_add, StableHlo.held_sub_split (c.tc : Thread nD τ) (arrs_sub (F := F)) (V1 m c)]
  unfold E ows
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem reg_post : (reg m).post c ⊢ iprop(StableHlo.held (c : Thread nD τ) (Pipeline.ucRefs τ sig) (V2 m (outs m) c) ∗ E m 1 c) := by
  show iprop(StableHlo.held (c.tc : Thread nD τ) (Pipeline.arrRefs (τ := τ) (pcfgs (F := F) 0).spec) (V2 m (outs m) c) ∗ (∃ r, prngReg c r)
    ∗ (StableHlo.held (c.tc : Thread nD τ) (rest (F := F)) (V2 m (outs m) c) ∗ emp) ∗ Yk c ∗ ∃ Wd, owes (c : Thread nD τ) (0 : CellTallies nD τ sig Unit) Wd) ⊢ _
  rw [StableHlo.held_sub_split (c.tc : Thread nD τ) (arrs_sub (F := F)) (V2 m (outs m) c)]
  unfold E ows Yk
  iintro ⟨Ha, -, ⟨Hr, -⟩, Hb, HO⟩
  isplitl [Ha Hr]
  · isplitl [Ha]; · iexact Ha
    iexact Hr
  isplitl [Hb]; · iexact Hb
  iexact HO

/-! ## The launch -/

def u₀ : UU :=
  (initOf (Pipeline.cells cfgs cellOf_inj) (Pipeline.launchToks cfgs cellOf_inj), launchOf barCells scCells talkToks)

/-- The protocol's launch element, on device 0. -/
def G (c : Dev nD) : sProp 𝕄 := if c = 0 then BI.own (ER (launchOf barCells scCells talkToks)) else iprop(emp)
theorem bs_G : bigSep Finset.univ (G (F := F)) = BI.own (ER (launchOf barCells scCells talkToks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

theorem unscoped_zero : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What of a device's launch holdings is not the protocol's. -/
def bundle : sProp 𝕄 :=
  iprop(StableHlo.held (c : Thread nD τ) (Pipeline.ucRefs τ sig) (V0 m c)
    ∗ (cred (tallyAt (barCell c) () 7) ∗ bigSep (oth c) (fun _ => cred (tallyAt (oCell c kr0) () N1)) ∗ bigSep (oth c) (fun _ => cred (tallyAt (oCell c kr1) () N2)))
    ∗ (∃ r, prngReg c r) ∗ ows c (O₀ c))
/-- What of the protocol's state goes to one device alone. -/
def share : sProp 𝕄 := iprop(atPos ER (barCell c) 0 ∅ 0 ∗ bigSep Finset.univ (fun k : Fin 18 => openTok ER (oCell c k)) ∗ (barTok c ∗ goTok c))

theorem T₀_intro (K : GSem nD τ sig → ℕ) : iprop(Recs (insOf m) K ∗ (share c ∗ bundle m c))
    ⊢ iprop(StableHlo.held (c : Thread nD τ) (Pipeline.ucRefs τ sig) (V0 m c) ∗ E m 0 c) := by
  unfold bundle share E Tk start
  iintro ⟨#HR, ⟨Hat, Hop, Hbt, Hgo⟩, Hh, ⟨Hc, Hc0, Hc1⟩, Hp, HO⟩
  isplitl [Hh]; · iexact Hh
  isplitl [Hat Hop Hbt Hgo Hc Hc0 Hc1]
  · isplitr; · iexists K; iexact HR
    isplitl [Hat Hbt Hc]
    · isplitl [Hat]; · iexact Hat
      isplitl [Hc]; · iexact Hc
      iexact Hbt
    isplitl [Hgo Hc0 Hc1]
    · isplitl [Hgo]; · iexact Hgo
      isplitl [Hc0]; · iexact Hc0
      iexact Hc1
    iexact Hop
  isplitl [Hp]; · iexact Hp
  iexact HO

abbrev start₀ : sProp 𝕄 := iprop(unscopedBufs c (fun b => m ((c : Thread nD τ).loc b)) ∗ unscopedSems0 c
  ∗ owes (c : Thread nD τ) (O₀ c) ∅ ∗ Pipeline.launchCred O₀ c ∗ prngReg c (ρ c) ∗ G c)

theorem core_split : start₀ m ρ c ⊢ iprop(bundle m c ∗ (semVal (barCell c) 0 ∗ G c)) := by
  unfold start₀
  rw [show unscopedBufs c (fun b => m ((c : Thread nD τ).loc b)) = StableHlo.held (c : Thread nD τ) (Pipeline.ucRefs τ sig) (V0 m c) from
    Pipeline.unscopedBufs_held c (V0 m c), unscoped_zero]
  unfold bundle ows
  iintro ⟨Hh, Hus, HO, Hcr, Hp, HG⟩
  ihave Hc := (creds (F := F) c) $$ Hcr
  isplitl [Hh Hc HO Hp]
  · isplitl [Hh]; · iexact Hh
    isplitl [Hc]; · iexact Hc
    isplitl [Hp]; · iexists (ρ c); iexact Hp
    iexists ∅; iexact HO
  isplitl [Hus]; · iexact Hus
  iexact HG

theorem cores_split : (bigSep Finset.univ (start₀ m ρ) : sProp 𝕄)
    ⊢ iprop(bigSep Finset.univ (bundle m) ∗ (bigSep barCells (fun g => semVal g 0) ∗ BI.own (ER (launchOf barCells scCells talkToks)))) := by
  rw [bs_map, ← bs_G, ← bigSep_sep', ← bigSep_sep']
  exact bigSep_mono fun c _ => core_split m ρ c

theorem opens_deal : (bigSep scCells (fun g => openTok ER g) : sProp 𝕄)
    ⊢ bigSep Finset.univ (fun c : Dev nD => bigSep Finset.univ (fun k : Fin 18 => openTok ER (oCell c k))) := by
  rw [bs_map, bigSep_univ_prod]; exact BI.Entails.refl _

theorem init : iprop(bigSep Finset.univ (start₀ m ρ) ∗ levAts L lv)
    ⊢ (|={Set.univ}=> bigSep Finset.univ (fun c : Dev nD => iprop(StableHlo.held (c : Thread nD τ) (Pipeline.ucRefs τ sig) (V0 m c) ∗ E m 0 c)) : sProp 𝕄) := by
  iintro ⟨H, -⟩
  ihave H := (cores_split m ρ) $$ H
  icases H with ⟨HB, Hv, Hu⟩
  imod (Rounds.fund_launch ER (Rd (insOf m)) disjoint_cells (fun g _ h => h) talkToks) $$ [Hv Hu] with ⟨%κ, -, #Hinv, #Hr, Hat, Hopen, Htok⟩
  · isplitl [Hv]; · iexact Hv
    iexact Hu
  imodintro
  iapply (bigSep_with_persistent (R := Recs (insOf m) κ) (Φ := fun c => iprop(share c ∗ bundle m c)) fun c _ => T₀_intro m c κ)
  isplitr
  · iapply (recs_intro (insOf m) κ)
    isplitr; · iexact Hinv
    iexact Hr
  rw [bigSep_sep']
  isplitr [HB]
  · unfold share
    rw [bigSep_sep', bigSep_sep']
    isplitl [Hat]; · iapply (Entails.of_eq (bs_map barEmb _)) $$ Hat
    isplitl [Hopen]
    · iapply opens_deal $$ Hopen
    iapply toks_deal $$ Htok
  iexact HB

theorem unscoped_eq : ∀ sm : SemLoc sig, sm.isScoped .tc = false → sm = .reg barS := by decide

/-- What a device's memory holds at the end. -/
def Ends (s : MemSt nD τ sig (Elt F)) (c : Dev nD) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)

set_option backward.isDefEq.respectTransparency.types false in
/-- THE RUN: from any memory with zero counters, every weakly fair execution ends, the arguments as launched, the result at
    `V3`, every counter of the machine at zero. -/
theorem run_main : θ_run defs (onTc (τ := τ) (main (F := F))) ⟨m, fun _ => 0, ρ⟩
    (fun r => (∀ c : Dev nD, Ends m r.2 c ∧ r.2.mem ((c.tc : Thread nD τ).loc main_v11) = V3 m (outs m) c main_v11) ∧ r.2.sem = fun _ => 0) := by
  refine Pipeline.θ_run_regions_kit_dev_sems (pcfgs (F := F)) adm (pdats m) () cellOf_inj EP defs₀ 𝒱₀ L lv m ρ main
    (segs m (outs m) 𝒱₀ L lv (E m) () (pdats m) (reg m))
    (fun c Q => by
      rewrite [main_chain c, Pipeline.Seg.run_eq_chain,
        show (segs m (outs m) 𝒱₀ L lv (E m) () (pdats m) (reg m) c).map Pipeline.Seg.prog = [
          StableHlo.seq (hostOps0 c),
          Prog.lift (.customCall (Pipeline.entry 0) ()),
          StableHlo.seq hostOps1 ] from rfl]
      exact .rfl)
    (fun c => by simp only [segs, Pipeline.Seg.pipes_host, Pipeline.Seg.pipes_region, Pipeline.Seg.pipes_nil]; decide) O₀ L_of_ne G u₀ ?_
    (T₀ := fun c => iprop(StableHlo.held (c : Thread nD τ) (Pipeline.ucRefs τ sig) (V0 m c) ∗ E m 0 c))
    (Tₙ := fun c => iprop(StableHlo.held (c : Thread nD τ) (Pipeline.ucRefs τ sig) (V3 m (outs m) c) ∗ semVal (barCell c) 0))
    (hch := fun c => ⟨.rfl, reg_pre m c, reg_post m c, ?_⟩)
    (hinit := init m ρ)
    (QY := fun c s => (Ends m s c ∧ s.mem ((c.tc : Thread nD τ).loc main_v11) = V3 m (outs m) c main_v11) ∧ s.sem (barCell c) = 0)
    (hfin := fun c s' => ?_)
    (hQ := fun s h hs => ⟨fun c => (h c).1, sem_eq_zero hs fun c sm hsm => by
      obtain rfl := unscoped_eq sm hsm
      exact (h c).2⟩)
  · unfold u₀
    iintro Hu
    ihave H := (ownU_pair _ _) $$ Hu
    icases H with ⟨HP, HX⟩
    imodintro
    isplitl [HP]; · iexact HP
    rw [bs_G]; iexact HX
  · show iprop(StableHlo.held (c : Thread nD τ) (Pipeline.ucRefs τ sig) (V3 m (outs m) c) ∗ (semVal (barCell c) 0 ∗ ows c 0))
      ⊢ iprop((StableHlo.held (c : Thread nD τ) (Pipeline.ucRefs τ sig) (V3 m (outs m) c) ∗ semVal (barCell c) 0) ∗ ows c 0)
    iintro ⟨Hh, Hb, HO⟩
    isplitl [Hh Hb]
    · isplitl [Hh]; · iexact Hh
      iexact Hb
    iexact HO
  · unfold StableHlo.held
    iintro ⟨⟨Hh, Hb⟩, HSI⟩
    icombine HSI Hb gives %hb
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro
      exact ⟨⟨⟨(h (Proc.devRef .tc main_arg0) (Finset.mem_filter.mpr ⟨StableHlo.devRef_mem_tcRefs main_arg0, by decide⟩)).trans (V3_main_arg0 m (outs m) c),
        (h (Proc.devRef .tc main_arg1) (Finset.mem_filter.mpr ⟨StableHlo.devRef_mem_tcRefs main_arg1, by decide⟩)).trans (V3_main_arg1 m (outs m) c),
        (h (Proc.devRef .tc main_arg2) (Finset.mem_filter.mpr ⟨StableHlo.devRef_mem_tcRefs main_arg2, by decide⟩)).trans (V3_main_arg2 m (outs m) c),
        (h (Proc.devRef .tc main_arg3) (Finset.mem_filter.mpr ⟨StableHlo.devRef_mem_tcRefs main_arg3, by decide⟩)).trans (V3_main_arg3 m (outs m) c),
        (h (Proc.devRef .tc main_arg4) (Finset.mem_filter.mpr ⟨StableHlo.devRef_mem_tcRefs main_arg4, by decide⟩)).trans (V3_main_arg4 m (outs m) c)⟩,
        h (Proc.devRef .tc main_v11) (Finset.mem_filter.mpr ⟨StableHlo.devRef_mem_tcRefs main_v11, by decide⟩)⟩, by simpa using hb⟩
    iexact HSI

end Cert.KernelIdeal.Talk

end
-- ==== Proof.Heads.lean ====
/-
  One head of attention on extended reals: what the kernel's operations compute, read at an index.
-/
module

public import proofs.«01_k».proof.Proof.Protocol
public import Idealize.ShloMosaic.Lib.Pointwise

@[expose] public section

set_option maxRecDepth 16384

noncomputable section

namespace Cert.Attn

open Idealize.ShloMosaic

/-- The factor of the scores, an eighth. -/
def eighth : EReal := Ideal.ofBits .f32 0x3E000000#32
/-- Where the largest score is looked for from: below every one. -/
def low : EReal := Ideal.ofBits .f32 0xFF800000#32

/-- A row of scores `s` turned into weights, applied to the values `v`. -/
def attn (s v : Fin 128 → EReal) : EReal :=
  ∑ j : Fin 128, Ideal.div (Ideal.exp (s j - Finset.univ.fold max low s))
    (∑ l : Fin 128, Ideal.exp (s l - Finset.univ.fold max low s)) * v j

/-- The scores of a query against every key. -/
def score (q : Fin 64 → EReal) (k : Fin 128 → Fin 64 → EReal) (j : Fin 128) : EReal := (∑ e : Fin 64, q e * k j e) * eighth

end Cert.Attn

namespace Cert.KernelIdeal.Talk

open Cert.KernelIdeal Cert.KernelIdeal.Gen Cert.Attn
open Idealize.ShloMosaic Idealize.ShloMosaic.TcCoe

section Generic

variable {F : FTy → Type} [FloatOps F]

/-- A head's scores. -/
def scoresOf (q : FVec F S128x64 .f32) (kb : Vec F S1x128x1x64 .f32) : FVec F S128x128 .f32 :=
  mulf (matmul dot_S128x64_S128x64_S128x128_1_1_0_0_n_n none q (shapeCast S128x64 kb shapeCasts_S1x128x1x64_S128x64)
    (constant S128x128 .f32 0x00000000#32)) (broadcast S128x128 (Scalar.ofBits .f32 0x3E000000#32))

/-- A head's exponentials. -/
def expsOf (s : FVec F S128x128 .f32) : FVec F S128x128 .f32 :=
  exp (subf s (broadcastTo S128x128 (shapeCast S128x1 (multiReduction .maximumf [1] S128 s 0xFF800000#32 reduces_S128x128_S128 (.inl rfl) rfl)
    shapeCasts_S128_S128x1) broadcasts_S128x1_S128x128))

/-- A head's rows, from its exponentials. -/
def rowsOf (e : FVec F S128x128 .f32) (v : FVec F S128x64 .f32) : FVec F S128x64 .f32 :=
  matmul dot_S128x128_S128x64_S128x64_1_0_0_1_n_n none
    (divf e (broadcastTo S128x128 (shapeCast S128x1 (multiReduction .add [1] S128 e 0x00000000#32 reduces_S128x128_S128 (.inl rfl) rfl)
      shapeCasts_S128_S128x1) broadcasts_S128x1_S128x128)) v (constant S128x64 .f32 0x00000000#32)

/-- A head, from its 64 columns of the queries and its blocks of keys and values. -/
def headOf (q : FVec F S128x64 .f32) (kb vb : Vec F S1x128x1x64 .f32) : FVec F S128x64 .f32 :=
  rowsOf (expsOf (scoresOf q kb)) (shapeCast S128x64 vb shapeCasts_S1x128x1x64_S128x64)

/-- Four heads side by side. -/
def sideBySide (a b c d : FVec F S128x64 .f32) : FVec F S128x256 .f32 :=
  concatenate S128x256 1 [⟨S128x64, a⟩, ⟨S128x64, b⟩, ⟨S128x64, c⟩, ⟨S128x64, d⟩] concatenates_S128x64_S128x64_S128x64_S128x64_S128x256_d1

variable (I : Ins F) (c : Dev nD)

/-- The queries of a batch. -/
abbrev qs0 : FVec F S128x256 .f32 := k0_pay1 (ldX I c ![0, 0, 0] inb_S2x128x512_S1x128x512_0_0_0) (ldQ I c)
abbrev qs1 : FVec F S128x256 .f32 := k0_pay1 (ldX I c ![1, 0, 0] inb_S2x128x512_S1x128x512_1_0_0) (ldQ I c)

theorem half0_eq : half0 I c = shapeCast S128x256 (sideBySide
    (headOf (extractStridedSlice S128x64 ![0, 0] (qs0 I c) slices_S128x256_o0_0_S128x64)
      (ldK I c ![0, 0, 0, 0] inb_S2x128x4x64_S1x128x1x64_0_0_0_0) (ldV I c ![0, 0, 0, 0] inb_S2x128x4x64_S1x128x1x64_0_0_0_0))
    (headOf (extractStridedSlice S128x64 ![0, 64] (qs0 I c) slices_S128x256_o0_64_S128x64)
      (ldK I c ![0, 0, 1, 0] inb_S2x128x4x64_S1x128x1x64_0_0_1_0) (ldV I c ![0, 0, 1, 0] inb_S2x128x4x64_S1x128x1x64_0_0_1_0))
    (headOf (extractStridedSlice S128x64 ![0, 128] (qs0 I c) slices_S128x256_o0_128_S128x64)
      (ldK I c ![0, 0, 2, 0] inb_S2x128x4x64_S1x128x1x64_0_0_2_0) (ldV I c ![0, 0, 2, 0] inb_S2x128x4x64_S1x128x1x64_0_0_2_0))
    (headOf (extractStridedSlice S128x64 ![0, 192] (qs0 I c) slices_S128x256_o0_192_S128x64)
      (ldK I c ![0, 0, 3, 0] inb_S2x128x4x64_S1x128x1x64_0_0_3_0) (ldV I c ![0, 0, 3, 0] inb_S2x128x4x64_S1x128x1x64_0_0_3_0)))
    shapeCasts_S128x256_S128x256 := rfl

theorem half1_eq : half1 I c = shapeCast S128x256 (sideBySide
    (headOf (extractStridedSlice S128x64 ![0, 0] (qs1 I c) slices_S128x256_o0_0_S128x64)
      (ldK I c ![1, 0, 0, 0] inb_S2x128x4x64_S1x128x1x64_1_0_0_0) (ldV I c ![1, 0, 0, 0] inb_S2x128x4x64_S1x128x1x64_1_0_0_0))
    (headOf (extractStridedSlice S128x64 ![0, 64] (qs1 I c) slices_S128x256_o0_64_S128x64)
      (ldK I c ![1, 0, 1, 0] inb_S2x128x4x64_S1x128x1x64_1_0_1_0) (ldV I c ![1, 0, 1, 0] inb_S2x128x4x64_S1x128x1x64_1_0_1_0))
    (headOf (extractStridedSlice S128x64 ![0, 128] (qs1 I c) slices_S128x256_o0_128_S128x64)
      (ldK I c ![1, 0, 2, 0] inb_S2x128x4x64_S1x128x1x64_1_0_2_0) (ldV I c ![1, 0, 2, 0] inb_S2x128x4x64_S1x128x1x64_1_0_2_0))
    (headOf (extractStridedSlice S128x64 ![0, 192] (qs1 I c) slices_S128x256_o0_192_S128x64)
      (ldK I c ![1, 0, 3, 0] inb_S2x128x4x64_S1x128x1x64_1_0_3_0) (ldV I c ![1, 0, 3, 0] inb_S2x128x4x64_S1x128x1x64_1_0_3_0)))
    shapeCasts_S128x256_S128x256 := rfl

end Generic

/-! ## At an index, on extended reals -/

theorem scoresOf_at (q : FVec Ideal S128x64 .f32) (kb : FVec Ideal S1x128x1x64 .f32) (i j : Fin 128) :
    scoresOf (F := Ideal) q kb (ix2 i j) = score (fun e => q (ix2 i e)) (fun j e => kb (ix4 0 j 0 e)) j := by
  pointwise [scoresOf, score, eighth]

theorem expsOf_at (s : FVec Ideal S128x128 .f32) (i j : Fin 128) :
    expsOf (F := Ideal) s (ix2 i j) = Ideal.exp (s (ix2 i j) - Finset.univ.fold max low fun l => s (ix2 i l)) := by
  pointwise [expsOf, low]

theorem rowsOf_at (e : FVec Ideal S128x128 .f32) (v : FVec Ideal S128x64 .f32) (i : Fin 128) (d : Fin 64) :
    rowsOf (F := Ideal) e v (ix2 i d) = ∑ j : Fin 128, Ideal.div (e (ix2 i j)) (∑ l : Fin 128, e (ix2 i l)) * v (ix2 j d) := by
  pointwise [rowsOf]

theorem headOf_at (q : FVec Ideal S128x64 .f32) (kb vb : FVec Ideal S1x128x1x64 .f32) (i : Fin 128) (d : Fin 64) :
    headOf (F := Ideal) q kb vb (ix2 i d)
      = attn (score (fun e => q (ix2 i e)) (fun j e => kb (ix4 0 j 0 e))) (fun j => vb (ix4 0 j 0 d)) := by
  unfold headOf
  rw [rowsOf_at]
  simp only [expsOf_at, scoresOf_at]
  pointwise [attn]

end Cert.KernelIdeal.Talk

end
-- ==== Proof.Chunk.lean ====
/-
  The kernel's context, gathered rows and result at an index, on extended reals.
-/
module

public import proofs.«01_k».proof.Proof.Heads
public import Idealize.ShloMosaic.Lib.Pointwise.IndexBridge

@[expose] public section

set_option maxRecDepth 16384

noncomputable section

namespace Cert.KernelIdeal.Talk

open Cert.KernelIdeal Cert.KernelIdeal.Gen Cert.Attn
open Idealize.ShloMosaic Idealize.ShloMosaic.TcCoe

/-- Column `e` of head `h` among 256. -/
abbrev col (h : Fin 4) (e : Fin 64) : Fin 256 := ⟨64 * h.val + e.val, by omega⟩

theorem sideBySide_at (f : Fin 4 → FVec Ideal S128x64 .f32) (i : Fin 128) (h : Fin 4) (d : Fin 64) :
    sideBySide (F := Ideal) (f 0) (f 1) (f 2) (f 3) (ix2 i (col h d)) = f h (ix2 i d) := by
  pointwise [sideBySide]
  have hd := d.isLt
  fin_vals h with hk
  · obtain rfl : h = 0 := Fin.ext hk
    rw [dif_pos (by omega)]
    exact congrArg (fun d => f 0 (ix2 i d)) (Fin.ext (by show 64 * 0 + d.val = d.val; omega))
  · obtain rfl : h = 1 := Fin.ext hk
    rw [dif_neg (by omega), dif_pos (by omega)]
    exact congrArg (fun d => f 1 (ix2 i d)) (Fin.ext (by show 64 * 1 + d.val - 64 = d.val; omega))
  · obtain rfl : h = 2 := Fin.ext hk
    rw [dif_neg (by omega), dif_neg (by omega), dif_pos (by omega)]
    exact congrArg (fun d => f 2 (ix2 i d)) (Fin.ext (by show 64 * 2 + d.val - 64 - 64 = d.val; omega))
  · obtain rfl : h = 3 := Fin.ext hk
    rw [dif_neg (by omega), dif_neg (by omega), dif_neg (by omega)]
    exact congrArg (fun d => f 3 (ix2 i d)) (Fin.ext (by show 64 * 3 + d.val - 64 - 64 - 64 = d.val; omega))

variable (I : Ins Ideal) (c : Dev nD)

/-! The loads. -/

theorem ldX_at (b : Fin 2) (inb) (i : Fin 128) (p : Fin 512) : ldX I c ![b.val, 0, 0] inb (ix3 0 i p) = I.x c (ix3 b i p) := by
  refine congrArg (I.x c) (funext fun a => Fin.ext ?_)
  match a with
  | ⟨0, _⟩ => show b.val + 1 * 0 = b.val; omega
  | ⟨1, _⟩ => show 0 + 1 * i.val = i.val; omega
  | ⟨2, _⟩ => show 0 + 1 * p.val = p.val; omega
theorem ldQ_at (p : Fin 512) (n : Fin 256) : ldQ I c (ix2 p n) = I.q c (ix2 p n) := by
  refine congrArg (I.q c) (funext fun a => Fin.ext ?_)
  match a with
  | ⟨0, _⟩ => show 0 + 1 * p.val = p.val; omega
  | ⟨1, _⟩ => show 0 + 1 * n.val = n.val; omega
theorem ldK_at (b : Fin 2) (h : Fin 4) (inb) (j : Fin 128) (e : Fin 64) :
    ldK I c ![b.val, 0, h.val, 0] inb (ix4 0 j 0 e) = I.k c (ix4 b j h e) := by
  refine congrArg (I.k c) (funext fun a => Fin.ext ?_)
  match a with
  | ⟨0, _⟩ => show b.val + 1 * 0 = b.val; omega
  | ⟨1, _⟩ => show 0 + 1 * j.val = j.val; omega
  | ⟨2, _⟩ => show h.val + 1 * 0 = h.val; omega
  | ⟨3, _⟩ => show 0 + 1 * e.val = e.val; omega
theorem ldV_at (b : Fin 2) (h : Fin 4) (inb) (j : Fin 128) (e : Fin 64) :
    ldV I c ![b.val, 0, h.val, 0] inb (ix4 0 j 0 e) = I.v c (ix4 b j h e) := by
  refine congrArg (I.v c) (funext fun a => Fin.ext ?_)
  match a with
  | ⟨0, _⟩ => show b.val + 1 * 0 = b.val; omega
  | ⟨1, _⟩ => show 0 + 1 * j.val = j.val; omega
  | ⟨2, _⟩ => show h.val + 1 * 0 = h.val; omega
  | ⟨3, _⟩ => show 0 + 1 * e.val = e.val; omega
theorem ldW_at (d : Fin 8) (inb) (k : Fin 256) (n : Fin 512) :
    ldW I c ![256 * d.val, 0] inb (ix2 k n) = I.w c (ix2 ⟨256 * d.val + k.val, by omega⟩ n) := by
  refine congrArg (I.w c) (funext fun a => Fin.ext ?_)
  match a with
  | ⟨0, _⟩ => show 256 * d.val + 1 * k.val = 256 * d.val + k.val; omega
  | ⟨1, _⟩ => show 0 + 1 * n.val = n.val; omega
theorem ldR_at (d : Fin 8) (inb) (r : Fin 32) (k : Fin 256) :
    ldR I c ![d.val, 0, 0] inb (ix3 0 r k) = rsV I c (ix3 d r k) := by
  refine congrArg (rsV I c) (funext fun a => Fin.ext ?_)
  match a with
  | ⟨0, _⟩ => show d.val + 1 * 0 = d.val; omega
  | ⟨1, _⟩ => show 0 + 1 * r.val = r.val; omega
  | ⟨2, _⟩ => show 0 + 1 * k.val = k.val; omega

/-! The arrays as functions to extended reals. -/

def xE : FVec Ideal S2x128x512 .f32 := I.x c
def qE : FVec Ideal S512x256 .f32 := I.q c
def kE : FVec Ideal S2x128x4x64 .f32 := I.k c
def vE : FVec Ideal S2x128x4x64 .f32 := I.v c
def wE : FVec Ideal S2048x512 .f32 := I.w c
def rsE : FVec Ideal S8x32x256 .f32 := rsV I c
def ctxE : FVec Ideal S256x256 .f32 := ctxV I c
def outE : FVec Ideal S256x512 .f32 := outV I

/-- Row `i` of batch `b` of a device's context, at head `h`'s column `d`. -/
def ctxAt (b : Fin 2) (i : Fin 128) (h : Fin 4) (d : Fin 64) : EReal :=
  attn (score (fun e => ∑ p : Fin 512, xE I c (ix3 b i p) * qE I c (ix2 p (col h e))) (fun j e => kE I c (ix4 b j h e)))
    (fun j => vE I c (ix4 b j h d))

theorem pay1_at (x : FVec Ideal S1x128x512 .f32) (q : FVec Ideal S512x256 .f32) (i : Fin 128) (n : Fin 256) :
    k0_pay1 (F := Ideal) x q (ix2 i n) = ∑ p : Fin 512, x (ix3 0 i p) * q (ix2 p n) := by pointwise [k0_pay1]

theorem cut_at (h : Fin 4) (q : FVec Ideal S128x256 .f32) (is) (i : Fin 128) (e : Fin 64) :
    extractStridedSlice S128x64 ![0, 64 * h.val] q is (ix2 i e) = q (ix2 i (col h e)) := by pointwise

/-- Head `h` of batch `b`, from the loads it is made of. -/
theorem head_at (b : Fin 2) (h : Fin 4) (ix ik iv is) (i : Fin 128) (d : Fin 64) :
    headOf (F := Ideal) (extractStridedSlice S128x64 ![0, 64 * h.val] (k0_pay1 (ldX I c ![b.val, 0, 0] ix) (ldQ I c)) is)
      (ldK I c ![b.val, 0, h.val, 0] ik) (ldV I c ![b.val, 0, h.val, 0] iv) (ix2 i d) = ctxAt I c b i h d := by
  rw [headOf_at]
  unfold ctxAt
  refine congrArg₂ attn (congrArg₂ score (funext fun e => ?_) (funext fun j => funext fun e => ldK_at I c b h ik j e)) (funext fun j => ldV_at I c b h iv j d)
  rw [cut_at, pay1_at]
  exact Finset.sum_congr rfl fun p _ => congrArg₂ (fun a b : EReal => a * b) (ldX_at I c b ix i p) (ldQ_at I c p (col h e))

theorem inX (b : Fin 2) : ∀ a, (![b.val, 0, 0] : Fin 3 → ℕ) a + S1x128x512.size a ≤ S2x128x512.size a := by
  rcases (by omega : b.val = 0 ∨ b.val = 1) with h | h <;> rw [h] <;> decide
theorem inK (b : Fin 2) (h : Fin 4) : ∀ a, (![b.val, 0, h.val, 0] : Fin 4 → ℕ) a + S1x128x1x64.size a ≤ S2x128x4x64.size a := by
  revert b h; decide
theorem inS (h : Fin 4) : S128x256.Slices ![0, 64 * h.val] S128x64 := by revert h; decide
theorem inW (d : Fin 8) : ∀ a, (![256 * d.val, 0] : Fin 2 → ℕ) a + S256x512.size a ≤ S2048x512.size a := by revert d; decide
theorem inR (d : Fin 8) : ∀ a, (![d.val, 0, 0] : Fin 3 → ℕ) a + S1x32x256.size a ≤ S8x32x256.size a := by revert d; decide

/-- The four heads of a batch. -/
def heads (b : Fin 2) (h : Fin 4) : FVec Ideal S128x64 .f32 :=
  headOf (F := Ideal) (extractStridedSlice S128x64 ![0, 64 * h.val] (k0_pay1 (ldX I c ![b.val, 0, 0] (inX b)) (ldQ I c)) (inS h))
    (ldK I c ![b.val, 0, h.val, 0] (inK b h)) (ldV I c ![b.val, 0, h.val, 0] (inK b h))

theorem same_at (x : FVec Ideal S128x256 .f32) (j : S128x256.Idx) : shapeCast S128x256 x shapeCasts_S128x256_S128x256 j = x j := by
  idx_vars j; pointwise

theorem half0_at (i : Fin 128) (h : Fin 4) (d : Fin 64) : half0 I c (ix2 i (col h d)) = ctxAt I c 0 i h d :=
  (congrFun (half0_eq I c) _).trans ((same_at _ _).trans ((sideBySide_at (heads I c 0) i h d).trans (head_at I c 0 h _ _ _ _ i d)))
theorem half1_at (i : Fin 128) (h : Fin 4) (d : Fin 64) : half1 I c (ix2 i (col h d)) = ctxAt I c 1 i h d :=
  (congrFun (half1_eq I c) _).trans ((same_at _ _).trans ((sideBySide_at (heads I c 1) i h d).trans (head_at I c 1 h _ _ _ _ i d)))

/-- Row `i` of batch `b` among 256. -/
abbrev row (b : Fin 2) (i : Fin 128) : Fin 256 := ⟨128 * b.val + i.val, by omega⟩

theorem ctx_at (b : Fin 2) (i : Fin 128) (h : Fin 4) (d : Fin 64) : ctxE I c (ix2 (row b i) (col h d)) = ctxAt I c b i h d := by
  have hi := i.isLt
  rcases (by omega : b.val = 0 ∨ b.val = 1) with hb | hb
  · obtain rfl : b = 0 := Fin.ext hb
    refine Eq.trans ?_ (half0_at I c i h d)
    show (if _ : 128 * 0 + i.val < 128 then _ else _) = _
    rw [dif_pos (by omega)]
    exact congrArg (half0 I c) (funext fun a => Fin.ext (by
      match a with
      | ⟨0, _⟩ => show 128 * 0 + i.val = i.val; omega
      | ⟨1, _⟩ => rfl))
  · obtain rfl : b = 1 := Fin.ext hb
    refine Eq.trans ?_ (half1_at I c i h d)
    show (if _ : 128 * 1 + i.val < 128 then _ else _) = _
    rw [dif_neg (by omega)]
    exact congrArg (half1 I c) (funext fun a => Fin.ext (by
      match a with
      | ⟨0, _⟩ => show 128 * 1 + i.val - 128 = i.val; omega
      | ⟨1, _⟩ => rfl))

/-- The eight products, summed. -/
theorem acc_pays (R : Fin 8 → FVec Ideal S1x32x256 .f32) (W : Fin 8 → FVec Ideal S256x512 .f32) (r : Fin 32) (n : Fin 512) :
    k0_pay23 (F := Ideal) (k0_pay21 (k0_pay19 (R 0) (W 0) (R 1) (W 1)) (k0_pay20 (R 2)) (W 2) (R 3) (W 3) (R 4) (W 4) (R 5) (W 5) (R 6) (W 6))
      (k0_pay22 (R 7)) (W 7) (ix2 r n) = ∑ e : Fin 8, ∑ k : Fin 256, R e (ix3 0 r k) * W e (ix2 k n) := by
  rw [Fin.sum_univ_eight]
  unfold_payloads
  pointwise

theorem acc_at (r : Fin 32) (n : Fin 512) : accV I c (ix2 r n)
    = ∑ e : Fin 8, ∑ k : Fin 256, rsE I c (ix3 e r k) * wE I c (ix2 ⟨256 * e.val + k.val, by omega⟩ n) := by
  refine (acc_pays (fun e => ldR I c ![e.val, 0, 0] (inR e)) (fun e => ldW I c ![256 * e.val, 0] (inW e)) r n).trans ?_
  exact Finset.sum_congr rfl fun e _ => Finset.sum_congr rfl fun k _ =>
    congrArg₂ (fun a b : EReal => a * b) (ldR_at I c e (inR e) r k) (ldW_at I c e (inW e) k n)

/-- The result at a row, from every device's context at that row. -/
theorem out_at (R : Fin 256) (n : Fin 512) : outE I (ix2 R n)
    = ∑ e : Fin 8, ∑ k : Fin 256, ctxE I e (ix2 R k) * wE I ⟨R.val / 32, by show R.val / 32 < 8; omega⟩ (ix2 ⟨256 * e.val + k.val, by omega⟩ n) := by
  refine (acc_at I ⟨R.val / 32, by show R.val / 32 < 8; omega⟩ ⟨R.val % 32, Nat.mod_lt _ (by decide)⟩ n).trans ?_
  refine Finset.sum_congr rfl fun e _ => Finset.sum_congr rfl fun k _ => congrArg₂ (fun a b : EReal => a * b) ?_ rfl
  refine congrArg (ctxV I e) (funext fun a => Fin.ext ?_)
  match a with
  | ⟨0, _⟩ => show 32 * (R.val / 32) + R.val % 32 = R.val; omega
  | ⟨1, _⟩ => rfl

end Cert.KernelIdeal.Talk

end
-- ==== Proof.Host.lean ====
/-
  The program's own operations around the call: the slice of the query weights before it, the reshape after it.
-/
module

public import proofs.«01_k».proof.Proof.Chunk
public import proofs.«01_k».proof.Proof.Region
public import Idealize.ShloMosaic.Lib.Claim
public import Idealize.ShloMosaic.Lib.StableHlo.ReadAt
public import Idealize.ShloMosaic.Lib.DynamicIndex

@[expose] public section

set_option maxRecDepth 16384

noncomputable section

namespace Cert.KernelIdeal.Talk

open Cert.KernelIdeal Cert.KernelIdeal.Gen
open Idealize.ShloMosaic Idealize.ShloMosaic.TcCoe

variable (m : (ℓ : Loc nD τ sig) → Buf (Elt Ideal) ℓ) (c : Dev nD)

/-! The arguments as functions to extended reals. -/

def argX : FVec Ideal S2x128x512 .f32 := m (c.tc.loc main_arg0)
def argQ : FVec Ideal S512x2048 .f32 := m (c.tc.loc main_arg1)
def argK : FVec Ideal S2x128x4x64 .f32 := m (c.tc.loc main_arg2)
def argV : FVec Ideal S2x128x4x64 .f32 := m (c.tc.loc main_arg3)
def argW : FVec Ideal S2048x512 .f32 := m (c.tc.loc main_arg4)

theorem xE_eq : xE (insOf m) c = argX m c := V1_of m c main_arg0 (by decide)
theorem kE_eq : kE (insOf m) c = argK m c := V1_of m c main_arg2 (by decide)
theorem vE_eq : vE (insOf m) c = argV m c := V1_of m c main_arg3 (by decide)
theorem wE_eq : wE (insOf m) c = argW m c := V1_of m c main_arg4 (by decide)

/-- The device's first column, as the program works it out of the device's number. -/
theorem start_word : (select (cmpi .slt (muli (id (Host.remui (Host.divui (constantI S_ 32 (Dev.word c)) (constantI S_ 32 1#32)) (constantI S_ 32 8#32))) (constantI S_ 32 256#32)) (constantI S_ 32 0#32))
    (addi (muli (id (Host.remui (Host.divui (constantI S_ 32 (Dev.word c)) (constantI S_ 32 1#32)) (constantI S_ 32 8#32))) (constantI S_ 32 256#32)) (constantI S_ 32 2048#32))
    (muli (id (Host.remui (Host.divui (constantI S_ 32 (Dev.word c)) (constantI S_ 32 1#32)) (constantI S_ 32 8#32))) (constantI S_ 32 256#32)) (Shape.Idx.first h_S_)).toInt = ((256 * c.val : ℕ) : ℤ) := by
  revert c; decide

/-- A device's columns of the query weights. -/
theorem qE_at (p : Fin 512) (n : Fin 256) :
    qE (insOf m) c (ix2 p n) = argQ m c (ix2 p ⟨256 * c.val + n.val, by have := c.isLt; change c.val < 8 at this; omega⟩) := by
  show V1 m c main_v9 (ix2 p n) = _
  unfold V1
  entry_read
  rw [Host.dynamicSlice_eq_extractStridedSlice S512x256 _ _ ![0, 256 * c.val] _ (by revert c; decide) ?hs]
  case hs =>
    intro a
    match a with
    | ⟨0, _⟩ =>
      simp only [Fin.zero_eta, Matrix.cons_val_zero]
      after_results_simp
      rfl
    | ⟨1, _⟩ =>
      simp only [Fin.mk_one, Matrix.cons_val_one, Matrix.cons_val_fin_one]
      after_results_simp
      exact start_word c
  · refine congrArg (argQ m c) (funext fun a => Fin.ext ?_)
    match a with
    | ⟨0, _⟩ => show 0 + p.val = p.val; omega
    | ⟨1, _⟩ => rfl

theorem cast_rows (x : FVec Ideal S256x512 .f32) (b : Fin 2) (i : Fin 128) (n : Fin 512) :
    shapeCast S2x128x512 x shapeCasts_S256x512_S2x128x512 (ix3 b i n) = x (ix2 (row b i) n) := by
  pointwise
  exact congrArg (fun r => x (ix2 r n)) (Fin.ext (by show b.val * 128 + i.val = 128 * b.val + i.val; omega))

/-- The result after the reshape. -/
theorem V3_at (b : Fin 2) (i : Fin 128) (n : Fin 512) :
    (V3 m (outs m) c main_v11 : FVec Ideal S2x128x512 .f32) (ix3 b i n) = outE (insOf m) (ix2 (row b i) n) := by
  unfold V3
  entry_read
  rw [V2_v10]
  exact cast_rows (outE (insOf m)) b i n

end Cert.KernelIdeal.Talk

end
-- ==== Proof.Whole.lean ====
/-
  The reference's value at an index, on extended reals: every head of every batch, and the last product.
-/
module

public import proofs.«01_k».proof.Proof.Heads
public import proofs.«01_k».proof.Proof.Gen.ReferenceIdeal.Run
public import Idealize.ShloMosaic.Lib.Routing.OpsOrder
public import Idealize.ShloMosaic.Lib.Tactic.WordOmega

@[expose] public section

set_option maxRecDepth 16384

noncomputable section

namespace Cert.ReferenceIdeal.Whole

open Cert.ReferenceIdeal Cert.ReferenceIdeal.Gen Cert.ReferenceIdeal.Value Cert.Attn
open Idealize.ShloMosaic Idealize.ShloMosaic.TcCoe

section Generic

variable {F : FTy → Type} [FloatOps F]

/-- Which keys a query sees: those at most 128 away. -/
def mask : IVec S128x128 1 :=
  cmpi .sle (absi (subi
    (broadcastInDim S128x128 ![0, 1] bcast_S128x1_S128x128_0_1 (broadcastInDim S128x1 ![0] bcast_S128_S128x1_0 (iotaInDim S128 32 0)))
    (broadcastInDim S128x128 ![0, 1] bcast_S1x128_S128x128_0_1 (broadcastInDim S1x128 ![1] bcast_S128_S1x128_1 (iotaInDim S128 32 0)))))
    (broadcastInDim S128x128 ![] bcast_S_S128x128 (constantI S_ 32 128#32))

/-- Which queries see a key at all. -/
def keep : IVec S128 1 := Host.reduce IntOp.ori mask (constantI S_ 1 0#1) reducesTo_S128x128_S128_d1 h_S_

/-- The queries, by head. -/
def queries (x : FVec F S2x128x512 .f32) (wq : FVec F S512x2048 .f32) : FVec F S2x128x32x64 .f32 :=
  shapeCast S2x128x32x64 (Host.dotGeneral dot_S2x128x512_S512x2048_S2x128x2048_2_0_01_1_n_n none x wq) shapeCasts_S2x128x2048_S2x128x32x64

/-- The scores before the mask. -/
def plain (q k : FVec F S2x128x32x64 .f32) : FVec F S2x32x128x128 .f32 :=
  mulf (Host.dotGeneral dot_S2x128x32x64_S2x128x32x64_S2x32x128x128_3_3_1_1_02_02 none q k)
    (broadcastInDim S2x32x128x128 ![] bcast_S_S2x32x128x128 (constant S_ .f32 0x3E000000#32))

/-- The scores, those of keys not seen at -1e9. -/
def masked (s : FVec F S2x32x128x128 .f32) : FVec F S2x32x128x128 .f32 :=
  select (broadcastInDim S2x32x128x128 ![0, 1, 2, 3] bcast_S1x1x128x128_S2x32x128x128_0_1_2_3
      (broadcastInDim S1x1x128x128 ![2, 3] bcast_S128x128_S1x1x128x128_2_3 mask)) s
    (broadcastInDim S2x32x128x128 ![] bcast_S_S2x32x128x128 (id (constant S_ .f32 0xCE6E6B28#32)))

/-- The exponentials of the scores less their row's largest. -/
def exps (s : FVec F S2x32x128x128 .f32) : FVec F S2x32x128x128 .f32 :=
  Host.exp (subf s (broadcastInDim S2x32x128x128 ![0, 1, 2, 3] bcast_S2x32x128x1_S2x32x128x128_0_1_2_3
    (broadcastInDim S2x32x128x1 ![0, 1, 2] bcast_S2x32x128_S2x32x128x1_0_1_2
      (Host.reduce FloatOps.maximumf s (constant S_ .f32 0xFF800000#32) reducesTo_S2x32x128x128_S2x32x128_d3 h_S_))))

/-- A row's sum, one for a query that sees no key. -/
def sums (e : FVec F S2x32x128x128 .f32) : FVec F S2x32x128x1 .f32 :=
  select (broadcastInDim S2x32x128x1 ![0, 1, 2, 3] bcast_S1x1x128x1_S2x32x128x1_0_1_2_3
      (broadcastInDim S1x1x128x1 ![2] bcast_S128_S1x1x128x1_2 keep))
    (broadcastInDim S2x32x128x1 ![0, 1, 2] bcast_S2x32x128_S2x32x128x1_0_1_2
      (Host.reduceAdd e (constant S_ .f32 0x00000000#32) reducesTo_S2x32x128x128_S2x32x128_d3 h_S_))
    (broadcastInDim S2x32x128x1 ![] bcast_S_S2x32x128x1 (id (constant S_ .f32 0x3F800000#32)))

/-- The weights, zero for a query that sees no key. -/
def weights (e : FVec F S2x32x128x128 .f32) : FVec F S2x32x128x128 .f32 :=
  select (broadcastInDim S2x32x128x128 ![0, 1, 2, 3] bcast_S1x1x128x1_S2x32x128x128_0_1_2_3
      (broadcastInDim S1x1x128x1 ![2] bcast_S128_S1x1x128x1_2 keep))
    (Host.divf e (broadcastInDim S2x32x128x128 ![0, 1, 2, 3] bcast_S2x32x128x1_S2x32x128x128_0_1_2_3 (sums e)))
    (broadcastInDim S2x32x128x128 ![] bcast_S_S2x32x128x128 (id (constant S_ .f32 0x00000000#32)))

/-- The weights applied to the values, heads side by side. -/
def context (v : FVec F S2x128x32x64 .f32) (w : FVec F S2x32x128x128 .f32) : FVec F S2x128x2048 .f32 :=
  shapeCast S2x128x2048 (transpose S2x128x32x64 [0, 3, 1, 2]
    (Host.dotGeneral dot_S2x128x32x64_S2x32x128x128_S2x32x64x128_1_3_3_2_02_01 none v w) transposes_S2x32x64x128_S2x128x32x64_0_3_1_2)
    shapeCasts_S2x128x32x64_S2x128x2048

/-- The last product. -/
def whole (x : FVec F S2x128x512 .f32) (wq : FVec F S512x2048 .f32) (k v : FVec F S2x128x32x64 .f32) (wo : FVec F S2048x512 .f32) :
    FVec F S2x128x512 .f32 :=
  Host.dotGeneral dot_S2x128x2048_S2048x512_S2x128x512_2_0_01_1_n_n none
    (context v (weights (exps (masked (plain (queries x wq) k))))) wo

theorem res_eq (m : (ℓ : Loc nD τ sig) → Buf (Elt F) ℓ) (c : Dev nD) : res_main_v34 m c
    = whole (m (c.tc.loc main_arg0)) (m (c.tc.loc main_arg1)) (m (c.tc.loc main_arg2)) (m (c.tc.loc main_arg3)) (m (c.tc.loc main_arg4)) := rfl

end Generic

/-! ## At an index -/

theorem mask_at (i j : Fin 128) : mask (ix2 i j) = 1#1 := by
  pointwise [mask]
  have hi := i.isLt
  have hj := j.isLt
  unfold IntOp.absi IntOp.subi
  rw [BitVec.msb_eq_decide]
  simp only [decide_eq_true_eq]
  word_omega

theorem keep_at (i : Fin 128) : keep (ix1 i) = 1#1 := by
  pointwise [keep]
  exact (Routing.fold_ori _ _).2 ⟨i, Finset.mem_univ _, mask_at i i⟩

/-- Column `e` of head `h` among 2048. -/
abbrev wcol (h : Fin 32) (e : Fin 64) : Fin 2048 := ⟨64 * h.val + e.val, by omega⟩

theorem queries_at (x : FVec Ideal S2x128x512 .f32) (wq : FVec Ideal S512x2048 .f32) (b : Fin 2) (i : Fin 128) (h : Fin 32) (e : Fin 64) :
    queries (F := Ideal) x wq (ix4 b i h e) = ∑ p : Fin 512, x (ix3 b i p) * wq (ix2 p (wcol h e)) := by
  pointwise [queries]
  exact Finset.sum_congr rfl fun p _ => congrArg (fun n => x (ix3 b i p) * wq (ix2 p n)) (Fin.ext (by show h.val * 64 + e.val = 64 * h.val + e.val; omega))

theorem plain_at (q k : FVec Ideal S2x128x32x64 .f32) (b : Fin 2) (h : Fin 32) (i j : Fin 128) :
    plain (F := Ideal) q k (ix4 b h i j) = score (fun e => q (ix4 b i h e)) (fun j e => k (ix4 b j h e)) j := by
  pointwise [plain, score, eighth]

theorem masked_at (s : FVec Ideal S2x32x128x128 .f32) (b : Fin 2) (h : Fin 32) (i j : Fin 128) :
    masked (F := Ideal) s (ix4 b h i j) = s (ix4 b h i j) := by
  pointwise [masked]
  rw [mask_at]
  rfl

theorem exps_at (s : FVec Ideal S2x32x128x128 .f32) (b : Fin 2) (h : Fin 32) (i j : Fin 128) :
    exps (F := Ideal) s (ix4 b h i j) = Ideal.exp (s (ix4 b h i j) - Finset.univ.fold max low fun l => s (ix4 b h i l)) := by
  pointwise [exps, low]

theorem sums_at (e : FVec Ideal S2x32x128x128 .f32) (b : Fin 2) (h : Fin 32) (i : Fin 128) :
    sums (F := Ideal) e (ix4 b h i 0) = ∑ l : Fin 128, e (ix4 b h i l) := by
  pointwise [sums]
  rw [keep_at]
  rfl

theorem weights_at (e : FVec Ideal S2x32x128x128 .f32) (b : Fin 2) (h : Fin 32) (i j : Fin 128) :
    weights (F := Ideal) e (ix4 b h i j) = Ideal.div (e (ix4 b h i j)) (∑ l : Fin 128, e (ix4 b h i l)) := by
  rw [← sums_at]
  pointwise [weights]
  rw [keep_at]
  exact if_pos rfl

theorem context_at (v : FVec Ideal S2x128x32x64 .f32) (w : FVec Ideal S2x32x128x128 .f32) (b : Fin 2) (i : Fin 128) (h : Fin 32) (d : Fin 64) :
    context (F := Ideal) v w (ix3 b i (wcol h d)) = ∑ j : Fin 128, w (ix4 b h i j) * v (ix4 b j h d) := by
  pointwise [context]
  have hh : ∀ p, (⟨(64 * h.val + d.val) / 64, p⟩ : Fin 32) = h := fun _ => Fin.ext (by show (64 * h.val + d.val) / 64 = h.val; omega)
  have hd : ∀ p, (⟨(64 * h.val + d.val) % 64, p⟩ : Fin 64) = d := fun _ => Fin.ext (by show (64 * h.val + d.val) % 64 = d.val; omega)
  simp only [hh, hd]
  exact Finset.sum_congr rfl fun j _ => mul_comm _ _

/-- Row `i` of batch `b`, at head `h`'s column `d`, before the last product. -/
def headAt (x : FVec Ideal S2x128x512 .f32) (wq : FVec Ideal S512x2048 .f32) (k v : FVec Ideal S2x128x32x64 .f32)
    (b : Fin 2) (i : Fin 128) (h : Fin 32) (d : Fin 64) : EReal :=
  attn (score (fun e => ∑ p : Fin 512, x (ix3 b i p) * wq (ix2 p (wcol h e))) (fun j e => k (ix4 b j h e))) (fun j => v (ix4 b j h d))

theorem context_head (x : FVec Ideal S2x128x512 .f32) (wq : FVec Ideal S512x2048 .f32) (k v : FVec Ideal S2x128x32x64 .f32)
    (b : Fin 2) (i : Fin 128) (h : Fin 32) (d : Fin 64) :
    context (F := Ideal) v (weights (exps (masked (plain (queries x wq) k)))) (ix3 b i (wcol h d)) = headAt x wq k v b i h d := by
  rw [context_at]
  simp only [weights_at, exps_at, masked_at, plain_at, queries_at]
  rfl

theorem whole_at (x : FVec Ideal S2x128x512 .f32) (wq : FVec Ideal S512x2048 .f32) (k v : FVec Ideal S2x128x32x64 .f32)
    (wo : FVec Ideal S2048x512 .f32) (b : Fin 2) (i : Fin 128) (n : Fin 512) :
    whole (F := Ideal) x wq k v wo (ix3 b i n)
      = ∑ h : Fin 32, ∑ d : Fin 64, headAt x wq k v b i h d * wo (ix2 (wcol h d) n) := by
  have e : whole (F := Ideal) x wq k v wo (ix3 b i n)
      = ∑ r : Fin 2048, context (F := Ideal) v (weights (exps (masked (plain (queries x wq) k)))) (ix3 b i r) * wo (ix2 r n) := by
    pointwise [whole]
  rw [e, Fin.sum_univ_tiles 32 64 rfl]
  refine Finset.sum_congr rfl fun h _ => Finset.sum_congr rfl fun d _ => ?_
  have hr : ∀ p, (⟨h.val * 64 + d.val, p⟩ : Fin 2048) = wcol h d :=
    fun _ => Fin.ext (by show h.val * 64 + d.val = 64 * h.val + d.val; omega)
  rw [hr, context_head]

end Cert.ReferenceIdeal.Whole

end
-- ==== Proof.Value.lean ====
/-
  The kernel's result is the reference's: eight devices' heads are the whole model's heads.
-/
module

public import proofs.«01_k».proof.Proof.Host
public import proofs.«01_k».proof.Proof.Whole

@[expose] public section

set_option maxRecDepth 16384

noncomputable section

namespace Cert.KernelIdeal.Talk

open Cert.KernelIdeal Cert.KernelIdeal.Gen Cert.Attn Cert.ReferenceIdeal.Whole
open Idealize.ShloMosaic Idealize.ShloMosaic.TcCoe

variable (m : (ℓ : Loc nD τ sig) → Buf (Elt Ideal) ℓ)
variable (x : FVec Ideal S2x128x512 .f32) (wq : FVec Ideal S512x2048 .f32)
variable (k v : FVec Ideal Cert.ReferenceIdeal.S2x128x32x64 .f32) (wo : FVec Ideal S2048x512 .f32)

/-- What every device is given of the whole arrays: all of `x`, `wq` and `wo`, its own four heads of `k` and `v`. -/
structure Given : Prop where
  x : ∀ c, argX m c = x
  q : ∀ c, argQ m c = wq
  k : ∀ c, argK m c = Layout.block ⟨4, ![2, 128, 4, 64]⟩ ⟨4, ![2, 128, 32, 64]⟩ 2 8 c k
  v : ∀ c, argV m c = Layout.block ⟨4, ![2, 128, 4, 64]⟩ ⟨4, ![2, 128, 32, 64]⟩ 2 8 c v
  w : ∀ c, argW m c = wo

/-- Device `e`'s head `h` among all of them. -/
abbrev headIx (e : Fin 8) (h : Fin 4) : Fin 32 := ⟨e.val * 4 + h.val, by omega⟩

theorem block_at (k : FVec Ideal Cert.ReferenceIdeal.S2x128x32x64 .f32) (e : Fin 8) (b : Fin 2) (j : Fin 128) (h : Fin 4) (d : Fin 64) :
    (Layout.block ⟨4, ![2, 128, 4, 64]⟩ ⟨4, ![2, 128, 32, 64]⟩ 2 8 e k : FVec Ideal S2x128x4x64 .f32) (ix4 b j h d) = k (ix4 b j (headIx e h) d) := by
  refine congrArg k (funext fun a => Fin.ext ?_)
  match a with
  | ⟨0, _⟩ => rfl
  | ⟨1, _⟩ => rfl
  | ⟨2, _⟩ => rfl
  | ⟨3, _⟩ => rfl

variable {m x wq k v wo}

/-- A device's heads are the reference's. -/
theorem ctxAt_eq (G : Given m x wq k v wo) (e : Fin 8) (b : Fin 2) (i : Fin 128) (h : Fin 4) (d : Fin 64) :
    ctxAt (insOf m) e b i h d = headAt x wq k v b i (headIx e h) d := by
  unfold ctxAt headAt
  refine congrArg₂ attn (congrArg₂ score (funext fun n => Finset.sum_congr rfl fun p _ => ?_) (funext fun j => funext fun n => ?_)) (funext fun j => ?_)
  · rw [xE_eq, qE_at, G.x, G.q]
    exact congrArg (fun r => x (ix3 b i p) * wq (ix2 p r)) (Fin.ext (by show 256 * e.val + (64 * h.val + n.val) = 64 * (e.val * 4 + h.val) + n.val; omega))
  · rw [kE_eq, G.k, block_at]
  · rw [vE_eq, G.v, block_at]

/-- On every device the result is the reference's. -/
theorem result_eq (G : Given m x wq k v wo) (c : Dev nD) :
    (V3 m (outs m) c main_v11 : FVec Ideal S2x128x512 .f32) = whole (F := Ideal) x wq k v wo := by
  funext j
  idx_vars j
  refine (V3_at m c j0 j1 j2).trans ((out_at (insOf m) (row j0 j1) j2).trans (Eq.trans ?_ (whole_at x wq k v wo j0 j1 j2).symm))
  rw [Fin.sum_univ_tiles 8 4 rfl]
  refine Finset.sum_congr rfl fun e _ => ?_
  rw [Fin.sum_univ_tiles 4 64 rfl]
  refine Finset.sum_congr rfl fun h _ => Finset.sum_congr rfl fun d _ => ?_
  have hc : ∀ p, (⟨h.val * 64 + d.val, p⟩ : Fin 256) = col h d :=
    fun _ => Fin.ext (by show h.val * 64 + d.val = 64 * h.val + d.val; omega)
  have hw : ∀ p, (⟨256 * e.val + (h.val * 64 + d.val), p⟩ : Fin 2048) = wcol (headIx e h) d :=
    fun _ => Fin.ext (by show 256 * e.val + (h.val * 64 + d.val) = 64 * (e.val * 4 + h.val) + d.val; omega)
  rw [hw, hc, ctx_at, ctxAt_eq G, wE_eq, G.w]

end Cert.KernelIdeal.Talk

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Value
public import proofs.«01_k».proof.Proof.Machine.Run
public import Idealize.ShloMosaic.Lib.Claim
public import Idealize.ShloMosaic.Adequacy
public import Idealize.ShloMosaic.Init

@[expose] public section

noncomputable section

namespace Cert.Proof

open Idealize.ShloMosaic Idealize.SL.Sem

/-- The kernel on the machine's floats runs, keeps its arguments and leaves every counter at zero. -/
theorem frame_kernel : Cert.quiescent_Kernel := fun m g _ =>
  θ_run_mono (Cert.Kernel.Talk.run_main (F := Bits) m g) fun _ h => ⟨fun c => (h.1 c).1, h.2⟩

/-- The same of the kernel on extended reals. -/
theorem frame_ideal : Cert.quiescent_KernelIdeal := fun m g _ =>
  θ_run_mono (Cert.KernelIdeal.Talk.run_main (F := Ideal) m g) fun _ h => ⟨fun c => (h.1 c).1, h.2⟩

/-- The reference's arguments are not written, and it has no semaphore. -/
theorem frame_reference : Cert.quiescent_ReferenceIdeal := fun m g _ =>
  θ_run_mono (Cert.ReferenceIdeal.Value.run (F := Ideal) m g) fun r h =>
    ⟨fun c => (h c).2, sem_eq_zero_of_no_sems (by decide) r.2⟩

/-- On every device the kernel's result is the reference's, as extended reals. -/
theorem algebraic : Cert.algebraic_KernelIdeal_ReferenceIdeal := fun m g m' g' _ hagree =>
  have G : Cert.KernelIdeal.Talk.Given m (m' ((0 : Dev Cert.ReferenceIdeal.nD).tc.loc Cert.ReferenceIdeal.main_arg0))
      (m' ((0 : Dev Cert.ReferenceIdeal.nD).tc.loc Cert.ReferenceIdeal.main_arg1))
      (m' ((0 : Dev Cert.ReferenceIdeal.nD).tc.loc Cert.ReferenceIdeal.main_arg2))
      (m' ((0 : Dev Cert.ReferenceIdeal.nD).tc.loc Cert.ReferenceIdeal.main_arg3))
      (m' ((0 : Dev Cert.ReferenceIdeal.nD).tc.loc Cert.ReferenceIdeal.main_arg4)) :=
    ⟨fun c => (hagree c).1, fun c => (hagree c).2.1, fun c => (hagree c).2.2.1, fun c => (hagree c).2.2.2.1, fun c => (hagree c).2.2.2.2⟩
  ⟨Cert.ReferenceIdeal.Value.res_main_v34 m' 0,
    θ_run_mono (Cert.KernelIdeal.Talk.run_main (F := Ideal) m g) fun _ h c =>
      ⟨(h.1 c).2.trans ((Cert.KernelIdeal.Talk.result_eq G c).trans (Cert.ReferenceIdeal.Whole.res_eq m' 0).symm), (h.1 c).1⟩,
    θ_run_mono (Cert.ReferenceIdeal.Value.run (F := Ideal) m' g') fun _ h => h 0⟩

theorem claim : Cert.Claim := ⟨Cert.Kernel.Gen.facts, Cert.KernelIdeal.Gen.facts, Cert.ReferenceIdeal.Gen.facts,
  frame_kernel, frame_ideal, frame_reference, trivial, algebraic⟩

end Cert.Proof

end
